-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_inputs_finite [hPre_router_inputs_finite : Cert.Pre_router_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs_finite [hPre_router_inputs_finite : Cert.Pre_router_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_router_inputs_finite [hKernelIdeal : Cert.KernelIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_router_inputs_finite [hReferenceIdeal : Cert.ReferenceIdeal.Facts] [hPre_router_inputs_finite : Cert.Pre_router_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_router_inputs_finite [hKernelIdeal : Cert.KernelIdeal.Facts] [hReferenceIdeal : Cert.ReferenceIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_router_inputs_finite : Cert.Pre_router_inputs_finite.Facts),
    quiescent_Kernel (hKernel := hKernel)
    ∧ quiescent_KernelIdeal (hKernelIdeal := hKernelIdeal)
    ∧ quiescent_KernelIdeal_pre_router_inputs_finite (hKernelIdeal := hKernelIdeal) (hPre_router_inputs_finite := hPre_router_inputs_finite)
    ∧ quiescent_ReferenceIdeal (hReferenceIdeal := hReferenceIdeal)
    ∧ quiescent_ReferenceIdeal_pre_router_inputs_finite (hReferenceIdeal := hReferenceIdeal) (hPre_router_inputs_finite := hPre_router_inputs_finite)
    ∧ preserves_Kernel_KernelIdeal
    ∧ algebraic_KernelIdeal_ReferenceIdeal_pre_router_inputs_finite (hKernelIdeal := hKernelIdeal) (hReferenceIdeal := hReferenceIdeal) (hPre_router_inputs_finite := hPre_router_inputs_finite)
-- ==== Pre_router_inputs_finite.lean ====
abbrev S8192x2048 : Shape := ⟨2, ![8192, 2048]⟩
abbrev S16x2048 : Shape := ⟨2, ![16, 2048]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S8208x2048 : Shape := ⟨2, ![8208, 2048]⟩
abbrev S_ : Shape := ⟨0, ![]⟩

class Facts : Prop where
  concatenates_S8192x2048_S16x2048_S8208x2048_d0 : Shape.Concatenates [S8192x2048, S16x2048] S8208x2048 0
  bcast_S_S8208x2048 : S_.BroadcastsInDim S8208x2048 (![] : Fin 0 → Fin S8208x2048.rank)

variable [Facts]

def fn {F : FTy → Type} [FloatOps F] (main_arg0 : FVec F S8192x2048 .f32) (main_arg1 : FVec F S16x2048 .f32) (main_arg2 : FVec F S512x2048 .f32) (main_arg3 : FVec F S512 .f32) (main_arg4 : FVec F S1x512 .f32) (main_arg5 : FVec F S1 .f32) : IVec S8208x2048 1 :=
  let main_v0 : FVec F S8208x2048 .f32 := (fun a b => concatenate S8208x2048 0 [⟨S8192x2048, a⟩, ⟨S16x2048, b⟩] concatenates_S8192x2048_S16x2048_S8208x2048_d0) main_arg0 main_arg1
  let main_v1 : FVec F S8208x2048 .f32 := Host.absf main_v0
  let main_cst : FVec F S_ .f32 := constant S_ .f32 0x7F800000#32
  let main_v2 : FVec F S8208x2048 .f32 := broadcastInDim S8208x2048 ![] bcast_S_S8208x2048 main_cst
  let main_v3 : IVec S8208x2048 1 := cmpf .olt main_v1 main_v2
  main_v3
-- ==== Kernel.lean ====
abbrev S8192x2048 : Shape := ⟨2, ![8192, 2048]⟩
abbrev S16x2048 : Shape := ⟨2, ![16, 2048]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S8192x16 : Shape := ⟨2, ![8192, 16]⟩
abbrev S8192x4 : Shape := ⟨2, ![8192, 4]⟩
abbrev S1x1 : Shape := ⟨2, ![1, 1]⟩
abbrev S2048x2048 : Shape := ⟨2, ![2048, 2048]⟩
abbrev S528x2048 : Shape := ⟨2, ![528, 2048]⟩
abbrev S2x16x2048 : Shape := ⟨3, ![2, 16, 2048]⟩
abbrev S2x1x2048 : Shape := ⟨3, ![2, 1, 2048]⟩
abbrev S16x1 : Shape := ⟨2, ![16, 1]⟩
abbrev S512x1 : Shape := ⟨2, ![512, 1]⟩
abbrev S1x2048 : Shape := ⟨2, ![1, 2048]⟩
abbrev S1x16x2048 : Shape := ⟨3, ![1, 16, 2048]⟩
abbrev S1x1x2048 : Shape := ⟨3, ![1, 1, 2048]⟩
abbrev S2048 : Shape := ⟨1, ![2048]⟩
abbrev S4x2048 : Shape := ⟨2, ![4, 2048]⟩
abbrev S2048x4 : Shape := ⟨2, ![2048, 4]⟩
abbrev S2048x16 : Shape := ⟨2, ![2048, 16]⟩
abbrev S16 : Shape := ⟨1, ![16]⟩
abbrev S1x1x1 : Shape := ⟨3, ![1, 1, 1]⟩
abbrev S1x16x1 : Shape := ⟨3, ![1, 16, 1]⟩

abbrev nBuf : Space → Nat
  | .hbm => 12
  | .vmem => 15
  | .smem => 2
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S512x2048, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S1x512, .f32⟩
  | .hbm, ⟨7, _⟩ => ⟨S8192x16, .f32⟩
  | .hbm, ⟨8, _⟩ => ⟨S8192x4, .i32⟩
  | .hbm, ⟨9, _⟩ => ⟨S8192x4, .f32⟩
  | .hbm, ⟨10, _⟩ => ⟨S1x1, .f32⟩
  | .hbm, ⟨11, _⟩ => ⟨S1x1, .f32⟩
  | .local _ .vmem, ⟨0, _⟩ => ⟨S2048x2048, .f32⟩
  | .local _ .vmem, ⟨1, _⟩ => ⟨S2048x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S16x2048, .f32⟩
  | .local _ .vmem, ⟨6, _⟩ => ⟨S8192x16, .f32⟩
  | .local _ .vmem, ⟨7, _⟩ => ⟨S8192x4, .i32⟩
  | .local _ .vmem, ⟨8, _⟩ => ⟨S8192x4, .f32⟩
  | .local _ .vmem, ⟨9, _⟩ => ⟨S1x1, .f32⟩
  | .local _ .vmem, ⟨10, _⟩ => ⟨S1x1, .f32⟩
  | .local _ .vmem, ⟨11, _⟩ => ⟨S528x2048, .bf16⟩
  | .local _ .vmem, ⟨12, _⟩ => ⟨S2x16x2048, .f32⟩
  | .local _ .vmem, ⟨13, _⟩ => ⟨S2x1x2048, .f32⟩
  | .local _ .vmem, ⟨14, _⟩ => ⟨S16x1, .f32⟩
  | .local _ .smem, ⟨0, _⟩ => ⟨S1, .f32⟩
  | .local _ .smem, ⟨1, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg4_0 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let c2_i32 : BitVec 32 := 2#32
  let c0_i32_10 : BitVec 32 := 0#32
  let v20 : BitVec 1 := Scalar.cmpi .eq c2_i32 c0_i32_10
  let c1_i32 : BitVec 32 := 1#32
  let v21 : BitVec 32 := Scalar.select v20 c1_i32 c2_i32
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : Index := Scalar.indexCast v29
  let c0_14 : Index := 0#32
  let c0_15 : Index := 0#32
  ![v30.toNat, 0, 0]
def k0_off2 (i : grid0.Coords) : Fin 3 → Nat :=
  let arg0 : BitVec 32 := BitVec.ofNat 32 (i 0).val
  let c2_i32_17 : BitVec 32 := 2#32
  let c0_i32_18 : BitVec 32 := 0#32
  let v37 : BitVec 1 := Scalar.cmpi .eq c2_i32_17 c0_i32_18
  let c1_i32_19 : BitVec 32 := 1#32
  let v38 : BitVec 32 := Scalar.select v37 c1_i32_19 c2_i32_17
  let v39 : BitVec 32 := Scalar.remsi arg0 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let v47 : Index := Scalar.indexCast v46
  let c0_23 : Index := 0#32
  let c0_24 : Index := 0#32
  ![v47.toNat, 0, 0]
def k0_cond2 (i : grid0.Coords) : BitVec 1 :=
  let arg0 : BitVec 32 := BitVec.ofNat 32 (i 0).val
  let c0_i32_25 : BitVec 32 := 0#32
  let v51 : BitVec 1 := Scalar.cmpi .sgt arg0 c0_i32_25
  let v52 : BitVec 32 := Scalar.extui v51
  let c0_i32_26 : BitVec 32 := 0#32
  let v53 : BitVec 1 := Scalar.cmpi .ne v52 c0_i32_26
  v53

def k0_off3 (i : grid0.Coords) : Fin 3 → Nat :=
  let arg0 : BitVec 32 := BitVec.ofNat 32 (i 0).val
  let c1_i32_29 : BitVec 32 := 1#32
  let v58 : BitVec 32 := Scalar.subi arg0 c1_i32_29
  let c2_i32_30 : BitVec 32 := 2#32
  let c0_i32_31 : BitVec 32 := 0#32
  let v59 : BitVec 1 := Scalar.cmpi .eq c2_i32_30 c0_i32_31
  let c1_i32_32 : BitVec 32 := 1#32
  let v60 : BitVec 32 := Scalar.select v59 c1_i32_32 c2_i32_30
  let v61 : BitVec 32 := Scalar.remsi v58 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let v69 : Index := Scalar.indexCast v68
  let c0_36 : Index := 0#32
  let c0_37 : Index := 0#32
  ![v69.toNat, 0, 0]
def k0_off4 (i : grid0.Coords) : Fin 3 → Nat :=
  let arg0 : BitVec 32 := BitVec.ofNat 32 (i 0).val
  let c1_i32_38 : BitVec 32 := 1#32
  let v72 : BitVec 32 := Scalar.subi arg0 c1_i32_38
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : Index := Scalar.indexCast v82
  let c0_45 : Index := 0#32
  let c0_46 : Index := 0#32
  ![v83.toNat, 0, 0]
def k0_off5 (i : grid0.Coords) : Fin 2 → Nat :=
  let arg0 : BitVec 32 := BitVec.ofNat 32 (i 0).val
  let c1_i32_28 : BitVec 32 := 1#32
  let v57 : BitVec 32 := Scalar.subi arg0 c1_i32_28
  let c2048_i32 : BitVec 32 := 2048#32
  let v86 : BitVec 32 := Scalar.muli v57 c2048_i32
  let v144 : Index := Scalar.indexCast v86
  let c0_64 : Index := 0#32
  ![v144.toNat, 0]
def k0_off6 (i : grid0.Coords) : Fin 2 → Nat :=
  let arg0 : BitVec 32 := BitVec.ofNat 32 (i 0).val
  let c1_i32_28 : BitVec 32 := 1#32
  let v57 : BitVec 32 := Scalar.subi arg0 c1_i32_28
  let c2048_i32 : BitVec 32 := 2048#32
  let v86 : BitVec 32 := Scalar.muli v57 c2048_i32
  let v159 : Index := Scalar.indexCast v86
  let c0_68 : Index := 0#32
  ![v159.toNat, 0]
def k0_cond3 (i : grid0.Coords) : BitVec 1 :=
  let arg0 : BitVec 32 := BitVec.ofNat 32 (i 0).val
  let c3_i32 : BitVec 32 := 3#32
  let v54 : BitVec 1 := Scalar.cmpi .eq arg0 c3_i32
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192x4 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x2048 : Shape := ⟨2, ![8192, 2048]⟩
abbrev S16x2048 : Shape := ⟨2, ![16, 2048]⟩
abbrev S512x2048 : Shape := ⟨2, ![512, 2048]⟩
abbrev S512 : Shape := ⟨1, ![512]⟩
abbrev S1x512 : Shape := ⟨2, ![1, 512]⟩
abbrev S1 : Shape := ⟨1, ![1]⟩
abbrev S2048x512 : Shape := ⟨2, ![2048, 512]⟩
abbrev S8192x512 : Shape := ⟨2, ![8192, 512]⟩
abbrev S_ : Shape := ⟨0, ![]⟩
abbrev S512x1 : Shape := ⟨2, ![512, 1]⟩
abbrev S8192x1 : Shape := ⟨2, ![8192, 1]⟩
abbrev S1x1 : Shape := ⟨2, ![1, 1]⟩
abbrev S8192 : Shape := ⟨1, ![8192]⟩
abbrev S2048x16 : Shape := ⟨2, ![2048, 16]⟩
abbrev S8192x16 : Shape := ⟨2, ![8192, 16]⟩
abbrev S8192x4 : Shape := ⟨2, ![8192, 4]⟩
abbrev S4 : Shape := ⟨1, ![4]⟩
abbrev S1x4 : Shape := ⟨2, ![1, 4]⟩
abbrev S16 : Shape := ⟨1, ![16]⟩

abbrev nBuf : Space → Nat
  | .hbm => 124
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S512x2048, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S2048x512, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S512x1, .f32⟩
  | .hbm, ⟨15, _⟩ => ⟨S8192x1, .f32⟩
  | .hbm, ⟨16, _⟩ => ⟨S1x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192, .f32⟩
  | .hbm, ⟨28, _⟩ => ⟨S2048x16, .f32⟩
  | .hbm, ⟨29, _⟩ => ⟨S8192x16, .f32⟩
  | .hbm, ⟨30, _⟩ => ⟨S_, .f32⟩
  | .hbm, ⟨31, _⟩ => ⟨S8192, .f32⟩
  | .hbm, ⟨32, _⟩ => ⟨S8192, .i1⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x4, .f32⟩
  | .hbm, ⟨40, _⟩ => ⟨S8192x4, .i32⟩
  | .hbm, ⟨41, _⟩ => ⟨S4, .i32⟩
  | .hbm, ⟨42, _⟩ => ⟨S1x4, .i32⟩
  | .hbm, ⟨43, _⟩ => ⟨S8192x1, .i32⟩
  | .hbm, ⟨44, _⟩ => ⟨S8192x4, .i32⟩
  | .hbm, ⟨45, _⟩ => ⟨S8192x4, .i32⟩
  | .hbm, ⟨46, _⟩ => ⟨S8192x4, .i1⟩
  | .hbm, ⟨47, _⟩ => ⟨S_, .i32⟩
  | .hbm, ⟨48, _⟩ => ⟨S_, .i32⟩
  | .hbm, ⟨49, _⟩ => ⟨S8192x4, .i32⟩
  | .hbm, ⟨50, _⟩ => ⟨S8192x4, .i32⟩
  | .hbm, ⟨51, _⟩ => ⟨S_, .f32⟩
  | .hbm, ⟨52, _⟩ => ⟨S_, .f32⟩
  | .hbm, ⟨53, _⟩ => ⟨S8192x4, .f32⟩
  | .hbm, ⟨54, _⟩ => ⟨S8192x4, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x4, .f32⟩
  | .hbm, ⟨59, _⟩ => ⟨S8192x4, .f32⟩
  | .hbm, ⟨60, _⟩ => ⟨S8192x4, .f32⟩
  | .hbm, ⟨61, _⟩ => ⟨S_, .f32⟩
  | .hbm, ⟨62, _⟩ => ⟨S_, .f32⟩
  | .hbm, ⟨63, _⟩ => ⟨S8192x4, .f32⟩
  | .hbm, ⟨64, _⟩ => ⟨S8192x4, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x4, .f32⟩
  | .hbm, ⟨69, _⟩ => ⟨S8192x4, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x16, .f32⟩
  | .hbm, ⟨83, _⟩ => ⟨S8192x16, .f32⟩
  | .hbm, ⟨84, _⟩ => ⟨S_, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S_, .i32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S_, .f32⟩
  | .hbm, ⟨94, _⟩ => ⟨S1, .f32⟩
  | .hbm, ⟨95, _⟩ => ⟨S1, .f32⟩
  | .hbm, ⟨96, _⟩ => ⟨S16, .f32⟩
  | .hbm, ⟨97, _⟩ => ⟨S16, .f32⟩
  | .hbm, ⟨98, _⟩ => ⟨S16, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .i1⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8192x16, .f32⟩
  | .hbm, ⟨112, _⟩ => ⟨S8192x16, .f32⟩
  | .hbm, ⟨113, _⟩ => ⟨S8192x16, .f32⟩
  | .hbm, ⟨114, _⟩ => ⟨S8192x16, .f32⟩
  | .hbm, ⟨115, _⟩ => ⟨S_, .f32⟩
  | .hbm, ⟨116, _⟩ => ⟨S8192, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S1x1, .f32⟩
  | .hbm, ⟨123, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_values : Ref sig .tc := ⟨.hbm, 39, rfl⟩
abbrev main_indices : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_call3_v0 : Ref sig .tc := ⟨.hbm, 62, rfl⟩
abbrev main_call3_v1 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_c_14 : Ref sig .tc := ⟨.hbm, 89, rfl⟩
abbrev main_call4_cst : Ref sig .tc := ⟨.hbm, 90, rfl⟩
abbrev main_call4_v0 : Ref sig .tc := ⟨.hbm, 91, rfl⟩
abbrev main_call4_v1 : Ref sig .tc := ⟨.hbm, 92, rfl⟩
abbrev main_call4_cst_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_cst_1 : Ref sig .tc := ⟨.hbm, 100, rfl⟩
abbrev main_call4_v8 : Ref sig .tc := ⟨.hbm, 101, rfl⟩
abbrev main_call4_cst_2 : Ref sig .tc := ⟨.hbm, 102, rfl⟩
abbrev main_call4_v9 : Ref sig .tc := ⟨.hbm, 103, rfl⟩
abbrev main_call4_v10 : Ref sig .tc := ⟨.hbm, 104, rfl⟩
abbrev main_call4_cst_3 : Ref sig .tc := ⟨.hbm, 105, rfl⟩
abbrev main_call4_v11 : Ref sig .tc := ⟨.hbm, 106, rfl⟩
abbrev main_call4_cst_4 : Ref sig .tc := ⟨.hbm, 107, rfl⟩
abbrev main_call4_call0_v0 : Ref sig .tc := ⟨.hbm, 108, rfl⟩
abbrev main_v57 : Ref sig .tc := ⟨.hbm, 109, rfl⟩
abbrev main_cst_15 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_16 : Ref sig .tc := ⟨.hbm, 115, rfl⟩
abbrev main_v62 : Ref sig .tc := ⟨.hbm, 116, rfl⟩
abbrev main_cst_17 : Ref sig .tc := ⟨.hbm, 117, rfl⟩
abbrev main_v63 : Ref sig .tc := ⟨.hbm, 118, rfl⟩
abbrev main_cst_18 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩

abbrev nD : Nat := 1
abbrev τ : Topo := Topo.v7x

variable {F : FTy → Type} [FloatOps F]
-- ==== Proof.Ideal.Spec.lean ====
/-
  What one grid point of the router kernel computes, as functions of what it reads: the concatenated weights the
  first point keeps, the logits tile and the predictor tile of a block of tokens, and what the routing tail makes of
  those two tiles.
-/
module

public import proofs.«01_k».proof.Proof.Gen.KernelIdeal.Skeleton
public import Idealize.ShloMosaic.Lib.VecWindow
public import Idealize.ShloMosaic.Lib.Pointwise

@[expose] public section

noncomputable section

namespace Cert.KernelIdeal.Router

open Idealize.ShloMosaic Cert.KernelIdeal Cert.KernelIdeal.Gen

variable {F : FTy → Type} [FloatOps F]

/-- The condition of the body's first branch, as the body computes it: the first grid point. -/
abbrev atFirst (i : grid0.Coords) : Prop :=
  Scalar.cmpi .ne (Scalar.extui (Scalar.cmpi .eq (BitVec.ofNat 32 (i 0).val) 0#32) : BitVec 32) 0#32 = 1#1

/-- The index along the second axis of a rank-2 shape, with its first coordinate replaced. -/
def atRow {n k r : ℕ} (y : (⟨2, ![n, k]⟩ : Shape).Idx) (i : Fin r) : (⟨2, ![r, k]⟩ : Shape).Idx :=
  fun | 0 => i | 1 => ⟨(y 1).val, (y 1).isLt⟩

/-- A 1 × 1 array has one index. -/
theorem one_idx (y : S1x1.Idx) : y = ix2 0 0 := by
  funext d
  match d with
  | ⟨0, _⟩ => exact Fin.ext (Nat.lt_one_iff.mp (y 0).isLt)
  | ⟨1, _⟩ => exact Fin.ext (Nat.lt_one_iff.mp (y 1).isLt)

/-- An array of one element has one index. -/
theorem one_idx1 (y : S1.Idx) : y = ix1 0 := by
  funext d
  match d with
  | ⟨0, _⟩ => exact Fin.ext (Nat.lt_one_iff.mp (y 0).isLt)

/-- The weights of both products in one array: the predictor's 512 rows, then the router's 16. -/
def wcat (w1 : Vec F S512x2048 .f32) (wr : Vec F S16x2048 .f32) : Vec F S528x2048 .bf16 := fun y =>
  if h : (y 0).val < 512 then k0_pay49 w1 (atRow y ⟨(y 0).val, h⟩)
  else k0_pay50 wr (atRow y ⟨(y 0).val - 512, by have : (y 0).val < 528 := (y 0).isLt; omega⟩)

/-- The logits tile of a block of tokens, an expert a row. -/
def ltOf (x : Vec F S2048x2048 .f32) (w : Vec F S528x2048 .bf16) : Vec F S1x16x2048 .f32 := k0_pay54 x w

/-- The predictor's tile of a block of tokens: its value before the sigmoid. -/
def ztOf (x : Vec F S2048x2048 .f32) (w : Vec F S528x2048 .bf16) (b1 w2 : Vec F S1x512 .f32) (b2 : Vec F S1 .f32) :
    Vec F S1x1x2048 .f32 := k0_pay1 (k0_pay53 x w b1 w2) (b2 (ix1 0))

/-- The row numbers of a tile of 16 experts. -/
def rows16 : IVec S16x2048 32 := iota .tc S16x2048 32 [0] iota_S16x2048_d0_w32

/-- The block of selected experts. -/
def idxT (lt : Vec F S1x16x2048 .f32) (zt : Vec F S1x1x2048 .f32) : Vec F S2048x4 .i32 :=
  k0_pay22 (k0_pay18 (k0_pay4 lt) rows16 (k0_pay7 lt) 16#32) k0_pay19 (k0_pay20 (k0_pay5 zt))

/-- The block of expert weights. -/
def wtsT (lt : Vec F S1x16x2048 .f32) (zt : Vec F S1x1x2048 .f32) : Vec F S2048x4 .f32 :=
  k0_pay23 (k0_pay6 lt) (k0_pay17 (k0_pay4 lt) rows16 (k0_pay6 lt) (k0_pay7 lt) 16#32) k0_pay19 (k0_pay20 (k0_pay5 zt))

/-- The block of logits, a token a row. -/
def logT (lt : Vec F S1x16x2048 .f32) : Vec F S2048x16 .f32 := k0_pay24 (k0_pay4 lt)

/-- The load sums with a block added. -/
def loadT (lt : Vec F S1x16x2048 .f32) (acc : Vec F S16x1 .f32) : Vec F S16x1 .f32 :=
  k0_pay26 (k0_pay4 lt) (k0_pay6 lt) acc

/-- The entropy sum with a block added. -/
def entT (lt : Vec F S1x16x2048 .f32) (e : Vec F S1x1 .f32) : Vec F S1x1 .f32 :=
  fun _ => k0_pay2 (e (ix2 0 0)) (k0_pay27 (k0_pay4 lt) (k0_pay6 lt))

/-- The sums before the first block. -/
def load0 : Vec F S16x1 .f32 := k0_pay51
/-- See `load0`. -/
def ent0 : Vec F S1x1 .f32 := fun _ => Scalar.ofBits .f32 0x00000000#32

/-- The variance of the loads, and the entropy, of the whole batch. -/
def varOf (acc : Vec F S16x1 .f32) : Vec F S1x1 .f32 := k0_pay48 acc
/-- See `varOf`. -/
def entOf (e : Vec F S1x1 .f32) : Vec F S1x1 .f32 := k0_pay3 (e (ix2 0 0))

end Cert.KernelIdeal.Router

end
-- ==== Proof.Ideal.Runs.lean ====
/-
  The grid points of the router kernel, run. The first point keeps the weights, clears the sums and fills slot 0 of each
  tile buffer. A later point fills one slot and routes the tile of the other slot. The last point then also routes
  the tile it has just made and leaves the two statistics.
-/
module

public import proofs.«01_k».proof.Proof.Ideal.Spec
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WholeRead

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

open VecWindow (put window)

/-- The core holds the eleven staging buffers and the five scratch buffers, each at the contents given. -/
def Held (c : Dev nD)
    (arg1 : Memref sig .tc .vmem S2048x2048 .f32) (arg2 : Memref sig .tc .vmem S512x2048 .f32)
    (arg3 : Memref sig .tc .vmem S1x512 .f32) (arg4 : Memref sig .tc .vmem S1x512 .f32)
    (arg5 : Memref sig .tc .smem S1 .f32) (arg6 : Memref sig .tc .vmem S16x2048 .f32)
    (arg7 : Memref sig .tc .vmem S8192x16 .f32) (arg8 : Memref sig .tc .vmem S8192x4 .i32)
    (arg9 : Memref sig .tc .vmem S8192x4 .f32) (arg10 : Memref sig .tc .vmem S1x1 .f32)
    (arg11 : Memref sig .tc .vmem S1x1 .f32) (arg12 : Memref sig .tc .vmem S528x2048 .bf16)
    (arg13 : Memref sig .tc .vmem S2x16x2048 .f32) (arg14 : Memref sig .tc .vmem S2x1x2048 .f32)
    (arg15 : Memref sig .tc .vmem S16x1 .f32) (arg16 : Memref sig .tc .smem S1x1 .f32)
    (x0 : Vec F S2048x2048 .f32) (x1 : Vec F S512x2048 .f32) (x2 : Vec F S1x512 .f32) (x3 : Vec F S1x512 .f32) (x4 : Vec F S1 .f32) (x5 : Vec F S16x2048 .f32) (y6 : Vec F S8192x16 .f32) (y7 : Vec F S8192x4 .i32) (y8 : Vec F S8192x4 .f32) (y9 : Vec F S1x1 .f32) (y10 : Vec F S1x1 .f32) (w : Vec F S528x2048 .bf16) (d1 : Vec F S2x16x2048 .f32) (d2 : Vec F S2x1x2048 .f32) (a : Vec F S16x1 .f32) (e : Vec F S1x1 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
    ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10
    ∗ owns (c : Thread nD τ) arg12 fullShare w ∗ owns (c : Thread nD τ) arg13 fullShare d1 ∗ owns (c : Thread nD τ) arg14 fullShare d2 ∗ owns (c : Thread nD τ) arg15 fullShare a ∗ owns (c : Thread nD τ) arg16 fullShare e)

/-- The predictor's tile over equal reads. -/
theorem k0_pay53_congr {x x' : Vec F S2048x2048 .f32} {w w' : Vec F S528x2048 .bf16} {b b' v v' : Vec F S1x512 .f32}
    (hx : x = x') (hw : w = w') (hb : b = b') (hv : v = v') : k0_pay53 x w b v = k0_pay53 x' w' b' v' := by
  rw [hx, hw, hb, hv]

/-- Storing the two weight matrices one under the other leaves `wcat`. -/
theorem read_wcat (v : View sig .tc .vmem S528x2048 .bf16) (f : v.ty.Contents (Elt F)) {w1 x1 : Vec F S512x2048 .f32} {wr x5 : Vec F S16x2048 .f32}
    (h1 : w1 = x1) (h5 : wr = x5) :
    v.read (Elt F) (v.writes (Elt F) f [⟨Rect.unit ![512, 0] S16x2048.size inb_S528x2048_S16x2048_512_0, k0_pay50 wr⟩,
      ⟨Rect.unit ![0, 0] S512x2048.size inb_S528x2048_S512x2048_0_0, k0_pay49 w1⟩]) = wcat x1 x5 := by
  subst h1 h5
  funext y
  unfold wcat
  have h528 : (y 0).val < 528 := (y 0).isLt
  by_cases h : (y 0).val < 512
  · rw [dif_pos h]
    refine (View.read_writes_cons_rows_of_not_mem v f _ _ _ y (o := 512) (W := 16) rfl rfl (Or.inl h)).trans ?_
    exact View.read_writes_cons_rows_of_mem v f _ _ _ y (atRow y ⟨(y 0).val, h⟩) (o := 0) rfl (Nat.zero_add _).symm rfl
  · rw [dif_neg h]
    exact View.read_writes_cons_rows_of_mem v f _ _ _ y (atRow y ⟨(y 0).val - 512, by omega⟩) (o := 512) rfl
      (show (y 0).val = 512 + ((y 0).val - 512) by omega) rfl

variable (c : Dev nD) (i : grid0.Coords)
    (arg1 : Memref sig .tc .vmem S2048x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .smem S1 .f32) (harg5 : arg5.IsWhole) (arg6 : Memref sig .tc .vmem S16x2048 .f32) (harg6 : arg6.IsWhole)
    (arg7 : Memref sig .tc .vmem S8192x16 .f32) (harg7 : arg7.IsWhole) (arg8 : Memref sig .tc .vmem S8192x4 .i32) (harg8 : arg8.IsWhole)
    (arg9 : Memref sig .tc .vmem S8192x4 .f32) (harg9 : arg9.IsWhole) (arg10 : Memref sig .tc .vmem S1x1 .f32) (harg10 : arg10.IsWhole)
    (arg11 : Memref sig .tc .vmem S1x1 .f32) (harg11 : arg11.IsWhole) (arg12 : Memref sig .tc .vmem S528x2048 .bf16) (harg12 : arg12.IsWhole)
    (arg13 : Memref sig .tc .vmem S2x16x2048 .f32) (harg13 : arg13.IsWhole) (arg14 : Memref sig .tc .vmem S2x1x2048 .f32) (harg14 : arg14.IsWhole)
    (arg15 : Memref sig .tc .vmem S16x1 .f32) (harg15 : arg15.IsWhole) (arg16 : Memref sig .tc .smem S1x1 .f32) (harg16 : arg16.IsWhole)
  (x0 : Vec F S2048x2048 .f32) (x1 : Vec F S512x2048 .f32) (x2 : Vec F S1x512 .f32) (x3 : Vec F S1x512 .f32) (x4 : Vec F S1 .f32) (x5 : Vec F S16x2048 .f32) (y6 : Vec F S8192x16 .f32) (y7 : Vec F S8192x4 .i32) (y8 : Vec F S8192x4 .f32) (y9 : Vec F S1x1 .f32) (y10 : Vec F S1x1 .f32) (w : Vec F S528x2048 .bf16) (d1 : Vec F S2x16x2048 .f32) (d2 : Vec F S2x1x2048 .f32) (a : Vec F S16x1 .f32) (e : Vec F S1x1 .f32)

set_option maxHeartbeats 1200000 in
/-- The first point. -/
theorem run_first
    (hc1 : atFirst i) (hc2 : ¬ k0_cond2 i = 1#1) (hc3 : ¬ k0_cond3 i = 1#1)
    (ho1 : k0_off1 i = ![0, 0, 0]) (ho2 : k0_off2 i = ![0, 0, 0])
    (E : Set ℕ) (K : PUnit → sProp 𝕄) :
    iprop(Held c arg1 arg2 arg3 arg4 arg5 arg6 arg7 arg8 arg9 arg10 arg11 arg12 arg13 arg14 arg15 arg16 x0 x1 x2 x3 x4 x5 y6 y7 y8 y9 y10 w d1 d2 a e
        ∗ (Held c arg1 arg2 arg3 arg4 arg5 arg6 arg7 arg8 arg9 arg10 arg11 arg12 arg13 arg14 arg15 arg16 x0 x1 x2 x3 x4 x5 y6 y7 y8 y9 y10 (wcat x1 x5) (put d1 ![0, 0, 0] S1x16x2048.size (ltOf x0 (wcat x1 x5))) (put d2 ![0, 0, 0] S1x1x2048.size (ztOf x0 (wcat x1 x5) x2 x3 x4)) load0 ent0 -∗ K ⟨⟩))
      ⊢ wp frame (wpE (defs₀ (F := F)) Variants.none c none) E (cc0__router_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__router_body_eq_skeleton]; unfold cc0__router_body_skel
  simp only [k0_part7_eq_skeleton]
  letI : ClosedOff (k0_off1 i) := ⟨![0, 0, 0], ho1⟩
  letI : ClosedOff (k0_off2 i) := ⟨![0, 0, 0], ho2⟩
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | sl_exact hc1 | sl_exact hc2 | sl_exact hc3)
  sl_step
  iapply Hk
  have h0 : View.readAt (Elt F) arg1.view (Rect.unit ![0, 0] S2048x2048.size inb_S2048x2048_S2048x2048_0_0).toLoadRect f0 = x0 :=
    (View.readAt_full _ _ _).trans hf0
  have h2 : View.readAt (Elt F) arg3.view (Rect.unit ![0, 0] S1x512.size inb_S1x512_S1x512_0_0).toLoadRect f2 = x2 :=
    (View.readAt_full _ _ _).trans hf2
  have h3 : View.readAt (Elt F) arg4.view (Rect.unit ![0, 0] S1x512.size inb_S1x512_S1x512_0_0).toLoadRect f3 = x3 :=
    (View.readAt_full _ _ _).trans hf3
  have h4 : View.readAt (Elt F) arg5.view (Rect.unit ![0] S1.size inb_S1_S1_0).toLoadRect f4 = x4 :=
    (View.readAt_full _ _ _).trans hf4
  have h1 : View.readAt (Elt F) arg2.view (Rect.unit ![0, 0] S512x2048.size inb_S512x2048_S512x2048_0_0).toLoadRect f1 = x1 :=
    (View.readAt_full _ _ _).trans hf1
  have h5 : View.readAt (Elt F) arg6.view (Rect.unit ![0, 0] S16x2048.size inb_S16x2048_S16x2048_0_0).toLoadRect f5 = x5 :=
    (View.readAt_full _ _ _).trans hf5
  have hW : run_first.sl.v5 c arg2 arg6 arg12 f1 f5 = wcat x1 x5 := by
    unfold run_first.sl.v5 View.readCov
    rw [View.readAt_full]
    exact read_wcat _ _ h1 h5
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; swap; · iexact H11
    ipureintro
    exact read_wcat _ _ h1 h5
  isplitl [H12]
  · iexists _; isplitr; swap; · iexact H12
    ipureintro
    refine (View.read_writes_cons_put _ _ _ _ _ ho1).trans ?_
    rw [View.writes_nil, hf12]
    exact congrArg₂ (fun x w => put d1 ![0, 0, 0] S1x16x2048.size (ltOf x w)) h0 hW
  isplitl [H13]
  · iexists _; isplitr; swap; · iexact H13
    ipureintro
    refine (View.read_writes_cons_put _ _ _ _ _ ho2).trans ?_
    rw [View.writes_nil, hf13]
    exact congrArg₂ (fun u b => put d2 ![0, 0, 0] S1x1x2048.size (k0_pay1 u b)) (k0_pay53_congr h0 hW h2 h3)
      ((congrFun h4 _).trans (congrArg x4 (one_idx1 _)))
  isplitl [H14]
  · iexists _; isplitr; swap; · iexact H14
    ipureintro
    exact View.read_writes_full _ _ _ _ _
  · iexists _; isplitr; swap; · iexact H15
    ipureintro
    exact View.read_writes_full _ _ _ _ _

set_option maxHeartbeats 1200000 in
/-- A point after the first that is not the last: the tile of slot `q` is routed, slot `p` filled. -/
theorem run_inner
    (hc1 : ¬ atFirst i) (hc2 : k0_cond2 i = 1#1) (hc3 : ¬ k0_cond3 i = 1#1)
    (p q r : ℕ) (hpq : p ≠ q) (ho1 : k0_off1 i = ![p, 0, 0]) (ho2 : k0_off2 i = ![p, 0, 0])
    (ho3 : k0_off3 i = ![q, 0, 0]) (ho4 : k0_off4 i = ![q, 0, 0]) (ho5 : k0_off5 i = ![r, 0]) (ho6 : k0_off6 i = ![r, 0])
    (lt : Vec F S1x16x2048 .f32) (zt : Vec F S1x1x2048 .f32)
    (hlt : ∀ h, window d1 ![q, 0, 0] S1x16x2048.size h = lt) (hzt : ∀ h, window d2 ![q, 0, 0] S1x1x2048.size h = zt)
    (E : Set ℕ) (K : PUnit → sProp 𝕄) :
    iprop(Held c arg1 arg2 arg3 arg4 arg5 arg6 arg7 arg8 arg9 arg10 arg11 arg12 arg13 arg14 arg15 arg16 x0 x1 x2 x3 x4 x5 y6 y7 y8 y9 y10 w d1 d2 a e
        ∗ (Held c arg1 arg2 arg3 arg4 arg5 arg6 arg7 arg8 arg9 arg10 arg11 arg12 arg13 arg14 arg15 arg16 x0 x1 x2 x3 x4 x5 (put y6 ![r, 0] S2048x16.size (logT lt)) (put y7 ![r, 0] S2048x4.size (idxT lt zt)) (put y8 ![r, 0] S2048x4.size (wtsT lt zt)) y9 y10 w (put d1 ![p, 0, 0] S1x16x2048.size (ltOf x0 w)) (put d2 ![p, 0, 0] S1x1x2048.size (ztOf x0 w x2 x3 x4)) (loadT lt a) (entT lt e) -∗ K ⟨⟩))
      ⊢ wp frame (wpE (defs₀ (F := F)) Variants.none c none) E (cc0__router_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__router_body_eq_skeleton]; unfold cc0__router_body_skel
  simp only [k0_part7_eq_skeleton, k0_part1_eq_skeleton, k0_part2_eq_skeleton, k0_part3_eq_skeleton]
  letI : ClosedOff (k0_off1 i) := ⟨![p, 0, 0], ho1⟩
  letI : ClosedOff (k0_off2 i) := ⟨![p, 0, 0], ho2⟩
  letI : ClosedOff (k0_off3 i) := ⟨![q, 0, 0], ho3⟩
  letI : ClosedOff (k0_off4 i) := ⟨![q, 0, 0], ho4⟩
  letI : ClosedOff (k0_off5 i) := ⟨![r, 0], ho5⟩
  letI : ClosedOff (k0_off6 i) := ⟨![r, 0], ho6⟩
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | sl_exact hc1 | sl_exact hc2 | sl_exact hc3)
  sl_step
  iapply Hk
  have h0 : View.readAt (Elt F) arg1.view (Rect.unit ![0, 0] S2048x2048.size inb_S2048x2048_S2048x2048_0_0).toLoadRect f0 = x0 :=
    (View.readAt_full _ _ _).trans hf0
  have h2 : View.readAt (Elt F) arg3.view (Rect.unit ![0, 0] S1x512.size inb_S1x512_S1x512_0_0).toLoadRect f2 = x2 :=
    (View.readAt_full _ _ _).trans hf2
  have h3 : View.readAt (Elt F) arg4.view (Rect.unit ![0, 0] S1x512.size inb_S1x512_S1x512_0_0).toLoadRect f3 = x3 :=
    (View.readAt_full _ _ _).trans hf3
  have h4 : View.readAt (Elt F) arg5.view (Rect.unit ![0] S1.size inb_S1_S1_0).toLoadRect f4 = x4 :=
    (View.readAt_full _ _ _).trans hf4
  have h11 : View.readAt (Elt F) arg12.view (Rect.unit ![0, 0] S528x2048.size inb_S528x2048_S528x2048_0_0).toLoadRect f11 = w :=
    (View.readAt_full _ _ _).trans hf11
  have h14 : View.readAt (Elt F) arg15.view (Rect.unit ![0, 0] S16x1.size inb_S16x1_S16x1_0_0).toLoadRect f14 = a :=
    (View.readAt_full _ _ _).trans hf14
  have h15 : View.readAt (Elt F) arg16.view (Rect.unit ![0, 0] S1x1.size inb_S1x1_S1x1_0_0).toLoadRect f15 = e :=
    (View.readAt_full _ _ _).trans hf15
  have hL : View.readAt (Elt F) arg13.view (Rect.unit (s := S2x16x2048) (k0_off3 i) S1x16x2048.size (k0_off3_inb i hc2)).toLoadRect
      (arg13.view.writes (Elt F) f12 (run_inner.sl.H12_1 c i arg1 arg12 f0 f11)) = lt := by
    unfold run_inner.sl.H12_1
    rw [View.readAt_unit _ _ _ ho3 (ho3 ▸ k0_off3_inb i hc2), View.read_writes_cons_put _ _ _ _ _ ho1,
      VecWindow.window_put_of_disjoint _ _ _ _ _ _ _ (0 : Fin 3) (by show q + 1 ≤ p ∨ p + 1 ≤ q; omega), View.writes_nil, hf12]
    exact hlt _
  have hZ : View.readAt (Elt F) arg14.view (Rect.unit (s := S2x1x2048) (k0_off4 i) S1x1x2048.size (k0_off4_inb i hc2)).toLoadRect
      (arg14.view.writes (Elt F) f13 (run_inner.sl.H13_1 c i arg1 arg3 arg4 arg5 arg12 f0 f2 f3 f4 f11)) = zt := by
    unfold run_inner.sl.H13_1
    rw [View.readAt_unit _ _ _ ho4 (ho4 ▸ k0_off4_inb i hc2), View.read_writes_cons_put _ _ _ _ _ ho2,
      VecWindow.window_put_of_disjoint _ _ _ _ _ _ _ (0 : Fin 3) (by show q + 1 ≤ p ∨ p + 1 ≤ q; omega), View.writes_nil, hf13]
    exact hzt _
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    refine (View.read_writes_cons_put _ _ _ _ _ ho6).trans ?_
    rw [View.writes_nil, hf6]
    exact congrArg (fun l => put y6 ![r, 0] S2048x16.size (logT l)) hL
  isplitl [H7]
  · iexists _; isplitr; swap; · iexact H7
    ipureintro
    refine (View.read_writes_cons_put _ _ _ _ _ ho5).trans ?_
    rw [View.writes_nil, hf7]
    exact congrArg₂ (fun l z => put y7 ![r, 0] S2048x4.size (idxT l z)) hL hZ
  isplitl [H8]
  · iexists _; isplitr; swap; · iexact H8
    ipureintro
    refine (View.read_writes_cons_put _ _ _ _ _ ho5).trans ?_
    rw [View.writes_nil, hf8]
    exact congrArg₂ (fun l z => put y8 ![r, 0] S2048x4.size (wtsT l z)) hL hZ
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro
    refine (View.read_writes_cons_put _ _ _ _ _ ho1).trans ?_
    rw [View.writes_nil, hf12]
    exact congrArg₂ (fun x w => put d1 ![p, 0, 0] S1x16x2048.size (ltOf x w)) h0 h11
  isplitl [H13]
  · iexists _; isplitr; swap; · iexact H13
    ipureintro
    refine (View.read_writes_cons_put _ _ _ _ _ ho2).trans ?_
    rw [View.writes_nil, hf13]
    exact congrArg₂ (fun u b => put d2 ![p, 0, 0] S1x1x2048.size (k0_pay1 u b)) (k0_pay53_congr h0 h11 h2 h3)
      ((congrFun h4 _).trans (congrArg x4 (one_idx1 _)))
  isplitl [H14]
  · iexists _; isplitr; swap; · iexact H14
    ipureintro
    refine (View.read_writes_full _ _ _ _ _).trans ?_
    exact congrArg₂ loadT hL h14
  · iexists _; isplitr; swap; · iexact H15
    ipureintro
    refine (View.read_writes_full _ _ _ _ _).trans ?_
    funext _
    exact congrArg₂ k0_pay2 ((congrFun h15 _).trans (congrArg e (one_idx _))) (congrArg (fun l => k0_pay27 (k0_pay4 l) (k0_pay6 l)) hL)

set_option maxHeartbeats 1200000 in
/-- The last point. -/
theorem run_last
    (hc1 : ¬ atFirst i) (hc2 : k0_cond2 i = 1#1) (hc3 : k0_cond3 i = 1#1)
    (ho1 : k0_off1 i = ![1, 0, 0]) (ho2 : k0_off2 i = ![1, 0, 0])
    (ho3 : k0_off3 i = ![0, 0, 0]) (ho4 : k0_off4 i = ![0, 0, 0]) (ho5 : k0_off5 i = ![4096, 0]) (ho6 : k0_off6 i = ![4096, 0])
    (lt : Vec F S1x16x2048 .f32) (zt : Vec F S1x1x2048 .f32)
    (hlt : ∀ h, window d1 ![0, 0, 0] S1x16x2048.size h = lt) (hzt : ∀ h, window d2 ![0, 0, 0] S1x1x2048.size h = zt)
    (E : Set ℕ) (K : PUnit → sProp 𝕄) :
    iprop(Held c arg1 arg2 arg3 arg4 arg5 arg6 arg7 arg8 arg9 arg10 arg11 arg12 arg13 arg14 arg15 arg16 x0 x1 x2 x3 x4 x5 y6 y7 y8 y9 y10 w d1 d2 a e
        ∗ (Held c arg1 arg2 arg3 arg4 arg5 arg6 arg7 arg8 arg9 arg10 arg11 arg12 arg13 arg14 arg15 arg16 x0 x1 x2 x3 x4 x5 (put (put y6 ![4096, 0] S2048x16.size (logT lt)) ![6144, 0] S2048x16.size (logT (ltOf x0 w))) (put (put y7 ![4096, 0] S2048x4.size (idxT lt zt)) ![6144, 0] S2048x4.size (idxT (ltOf x0 w) (ztOf x0 w x2 x3 x4))) (put (put y8 ![4096, 0] S2048x4.size (wtsT lt zt)) ![6144, 0] S2048x4.size (wtsT (ltOf x0 w) (ztOf x0 w x2 x3 x4))) (varOf (loadT (ltOf x0 w) (loadT lt a))) (entOf (entT (ltOf x0 w) (entT lt e))) w (put d1 ![1, 0, 0] S1x16x2048.size (ltOf x0 w)) (put d2 ![1, 0, 0] S1x1x2048.size (ztOf x0 w x2 x3 x4)) (loadT (ltOf x0 w) (loadT lt a)) (entT (ltOf x0 w) (entT lt e)) -∗ K ⟨⟩))
      ⊢ wp frame (wpE (defs₀ (F := F)) Variants.none c none) E (cc0__router_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__router_body_eq_skeleton]; unfold cc0__router_body_skel
  simp only [k0_part7_eq_skeleton, k0_part1_eq_skeleton, k0_part2_eq_skeleton, k0_part3_eq_skeleton, k0_part4_eq_skeleton, k0_part5_eq_skeleton, k0_part6_eq_skeleton]
  letI : ClosedOff (k0_off1 i) := ⟨![1, 0, 0], ho1⟩
  letI : ClosedOff (k0_off2 i) := ⟨![1, 0, 0], ho2⟩
  letI : ClosedOff (k0_off3 i) := ⟨![0, 0, 0], ho3⟩
  letI : ClosedOff (k0_off4 i) := ⟨![0, 0, 0], ho4⟩
  letI : ClosedOff (k0_off5 i) := ⟨![4096, 0], ho5⟩
  letI : ClosedOff (k0_off6 i) := ⟨![4096, 0], ho6⟩
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | sl_exact hc1 | sl_exact hc2 | sl_exact hc3)
  sl_step
  iapply Hk
  have h0 : View.readAt (Elt F) arg1.view (Rect.unit ![0, 0] S2048x2048.size inb_S2048x2048_S2048x2048_0_0).toLoadRect f0 = x0 :=
    (View.readAt_full _ _ _).trans hf0
  have h2 : View.readAt (Elt F) arg3.view (Rect.unit ![0, 0] S1x512.size inb_S1x512_S1x512_0_0).toLoadRect f2 = x2 :=
    (View.readAt_full _ _ _).trans hf2
  have h3 : View.readAt (Elt F) arg4.view (Rect.unit ![0, 0] S1x512.size inb_S1x512_S1x512_0_0).toLoadRect f3 = x3 :=
    (View.readAt_full _ _ _).trans hf3
  have h4 : View.readAt (Elt F) arg5.view (Rect.unit ![0] S1.size inb_S1_S1_0).toLoadRect f4 = x4 :=
    (View.readAt_full _ _ _).trans hf4
  have h11 : View.readAt (Elt F) arg12.view (Rect.unit ![0, 0] S528x2048.size inb_S528x2048_S528x2048_0_0).toLoadRect f11 = w :=
    (View.readAt_full _ _ _).trans hf11
  have h14 : View.readAt (Elt F) arg15.view (Rect.unit ![0, 0] S16x1.size inb_S16x1_S16x1_0_0).toLoadRect f14 = a :=
    (View.readAt_full _ _ _).trans hf14
  have h15 : View.readAt (Elt F) arg16.view (Rect.unit ![0, 0] S1x1.size inb_S1x1_S1x1_0_0).toLoadRect f15 = e :=
    (View.readAt_full _ _ _).trans hf15
  have hL70 : run_last.sl.v70 c i arg13 hc2 f12 = lt := by
    unfold run_last.sl.v70
    rw [View.readAt_unit _ _ _ ho3 (ho3 ▸ k0_off3_inb i hc2), hf12]
    exact hlt _
  have hZ84 : run_last.sl.v84 c i arg14 hc2 f13 = zt := by
    unfold run_last.sl.v84
    rw [View.readAt_unit _ _ _ ho4 (ho4 ▸ k0_off4_inb i hc2), hf13]
    exact hzt _
  have hL57 : run_last.sl.v57_1 c i arg1 arg12 arg13 f0 f11 = ltOf x0 w := by
    unfold run_last.sl.v57_1 View.readCov run_last.sl.H12_1
    rw [View.readAt_unit _ _ _ rfl inb_S2x16x2048_S1x16x2048_1_0_0, View.read_writes_cons_put _ _ _ _ _ ho1]
    exact (VecWindow.window_put_same _ _ _ _ _).trans (congrArg₂ ltOf h0 h11)
  have hZ59 : run_last.sl.v59 c i arg1 arg3 arg4 arg5 arg12 arg14 f0 f2 f3 f4 f11 = ztOf x0 w x2 x3 x4 := by
    unfold run_last.sl.v59 View.readCov run_last.sl.H13_1
    rw [View.readAt_unit _ _ _ rfl inb_S2x1x2048_S1x1x2048_1_0_0, View.read_writes_cons_put _ _ _ _ _ ho2]
    exact (VecWindow.window_put_same _ _ _ _ _).trans (congrArg₂ k0_pay1 (k0_pay53_congr h0 h11 h2 h3)
      ((congrFun h4 _).trans (congrArg x4 (one_idx1 _))))
  have hA1 : run_last.sl.v139 c i arg13 arg15 hc2 f12 f14 = loadT lt a :=
    (View.readCov_full _ _ _ _ _).trans (congrArg₂ loadT hL70 h14)
  have hA2 : run_last.sl.v158 c i arg1 arg12 arg13 arg15 hc2 f0 f11 f12 f14 = loadT (ltOf x0 w) (loadT lt a) :=
    (View.readCov_full _ _ _ _ _).trans (congrArg₂ loadT hL57 hA1)
  have hE1 : run_last.sl.r_23 c i arg13 arg16 hc2 f12 f15 = entT lt e (ix2 0 0) :=
    congrArg₂ k0_pay2 ((congrFun h15 _).trans (congrArg e (one_idx _))) (congrArg (fun l => k0_pay27 (k0_pay4 l) (k0_pay6 l)) hL70)
  have hE2 : run_last.sl.r_24 c i arg1 arg12 arg13 arg16 hc2 f0 f11 f12 f15 = entT (ltOf x0 w) (entT lt e) (ix2 0 0) :=
    congrArg₂ (fun l b => k0_pay2 b (k0_pay27 (k0_pay4 l) (k0_pay6 l))) hL57 hE1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    refine (View.read_writes_cons_put _ _ _ _ _ rfl).trans ?_
    rw [View.read_writes_cons_put _ _ _ _ _ ho6, View.writes_nil, hf6]
    exact congrArg₂ (fun u v => put (put y6 ![4096, 0] S2048x16.size u) ![6144, 0] S2048x16.size v)
      (congrArg logT hL70) (congrArg logT hL57)
  isplitl [H7]
  · iexists _; isplitr; swap; · iexact H7
    ipureintro
    refine (View.read_writes_cons_put _ _ _ _ _ rfl).trans ?_
    rw [View.read_writes_cons_put _ _ _ _ _ ho5, View.writes_nil, hf7]
    exact congrArg₂ (fun u v => put (put y7 ![4096, 0] S2048x4.size u) ![6144, 0] S2048x4.size v)
      (congrArg₂ idxT hL70 hZ84) (congrArg₂ idxT hL57 hZ59)
  isplitl [H8]
  · iexists _; isplitr; swap; · iexact H8
    ipureintro
    refine (View.read_writes_cons_put _ _ _ _ _ rfl).trans ?_
    rw [View.read_writes_cons_put _ _ _ _ _ ho5, View.writes_nil, hf8]
    exact congrArg₂ (fun u v => put (put y8 ![4096, 0] S2048x4.size u) ![6144, 0] S2048x4.size v)
      (congrArg₂ wtsT hL70 hZ84) (congrArg₂ wtsT hL57 hZ59)
  isplitl [H9]
  · iexists _; isplitr; swap; · iexact H9
    ipureintro
    exact (View.read_writes_full _ _ _ _ _).trans (congrArg varOf hA2)
  isplitl [H10]
  · iexists _; isplitr; swap; · iexact H10
    ipureintro
    exact (View.read_writes_full _ _ _ _ _).trans (congrArg k0_pay3 hE2)
  isplitl [H11]
  · iexists _; isplitr; · ipureintro; exact hf11
    iexact H11
  isplitl [H12]
  · iexists _; isplitr; swap; · iexact H12
    ipureintro
    refine (View.read_writes_cons_put _ _ _ _ _ ho1).trans ?_
    rw [View.writes_nil, hf12]
    exact congrArg₂ (fun x w => put d1 ![1, 0, 0] S1x16x2048.size (ltOf x w)) h0 h11
  isplitl [H13]
  · iexists _; isplitr; swap; · iexact H13
    ipureintro
    refine (View.read_writes_cons_put _ _ _ _ _ ho2).trans ?_
    rw [View.writes_nil, hf13]
    exact congrArg₂ (fun u b => put d2 ![1, 0, 0] S1x1x2048.size (k0_pay1 u b)) (k0_pay53_congr h0 h11 h2 h3)
      ((congrFun h4 _).trans (congrArg x4 (one_idx1 _)))
  isplitl [H14]
  · iexists _; isplitr; swap; · iexact H14
    ipureintro
    exact (View.read_writes_full _ _ _ _ _).trans (congrArg₂ loadT hL57 hA1)
  · iexists _; isplitr; swap; · iexact H15
    ipureintro
    refine (View.read_writes_full _ _ _ _ _).trans ?_
    funext _
    exact hE2

end Cert.KernelIdeal.Router

end
-- ==== Proof.Ideal.Data.lean ====
/-
  The router kernel over its four grid points: what the output arrays and the scratch hold after each point, and the
  proof that every point keeps to it. A block of tokens is routed one point after its tile is made; the last block is
  routed at the last point.
-/
module

public import proofs.«01_k».proof.Proof.Ideal.Runs
public import Idealize.ShloMosaic.Lib.Pipeline.ArrRel

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelIdeal Cert.KernelIdeal.Gen
open VecWindow (put window)

variable {F : FTy → Type} [FloatOps F]

local notation "𝕄" => MT nD τ sig Unit (Elt F) ℕ (UR sig nD τ) ℕ

/-! ## The grid points -/

/-- The branches and the offsets of a grid point. -/
theorem at_first : ∀ t : Fin grid0.N, atFirst (grid0.coords t) ↔ t.val = 0 := by decide +kernel
/-- See `at_first`. -/
theorem at_later : ∀ t : Fin grid0.N, k0_cond2 (grid0.coords t) = 1#1 ↔ t.val ≠ 0 := by decide +kernel
/-- See `at_first`. -/
theorem at_last : ∀ t : Fin grid0.N, k0_cond3 (grid0.coords t) = 1#1 ↔ t.val = 3 := by decide +kernel
/-- See `at_first`. -/
theorem made_at : ∀ t : Fin grid0.N, k0_off1 (grid0.coords t) = ![t.val % 2, 0, 0] ∧ k0_off2 (grid0.coords t) = ![t.val % 2, 0, 0] := by
  decide +kernel
/-- See `at_first`. -/
theorem routed_at : ∀ t : Fin grid0.N, t.val ≠ 0 → k0_off3 (grid0.coords t) = ![(t.val - 1) % 2, 0, 0]
    ∧ k0_off4 (grid0.coords t) = ![(t.val - 1) % 2, 0, 0] ∧ k0_off5 (grid0.coords t) = ![2048 * (t.val - 1), 0]
    ∧ k0_off6 (grid0.coords t) = ![2048 * (t.val - 1), 0] := by
  decide +kernel

/-- A number as a grid point. -/
def pt (n : ℕ) : Fin cfg0.N := ⟨n % 4, lt_of_lt_of_eq (Nat.mod_lt n (by decide)) (show 4 = cfg0.N from N_0.symm)⟩

/-- A grid point is the one of its number. -/
theorem pt_val (t : Fin cfg0.N) : pt t.val = t :=
  Fin.ext (Nat.mod_eq_of_lt (lt_of_lt_of_eq t.isLt (show cfg0.N = 4 from N_0)))

/-! ## An array filled block by block -/

/-- The array whose block `n` of 2048 rows is `f n`. -/
def rowsOf {α : Type} {k : ℕ} (f : ℕ → (⟨2, ![2048, k]⟩ : Shape).Idx → α) : (⟨2, ![8192, k]⟩ : Shape).Idx → α := fun y =>
  f ((y 0).val / 2048) (atRow y ⟨(y 0).val % 2048, Nat.mod_lt _ (by decide)⟩)

/-- `Y` is `T` on the first `n` rows. -/
def Rows {α : Type} {k : ℕ} (n : ℕ) (T Y : (⟨2, ![8192, k]⟩ : Shape).Idx → α) : Prop := ∀ y, (y 0).val < n → Y y = T y

/-- Arrays that agree in all their rows are equal. -/
theorem Rows.eq {α : Type} {k : ℕ} {T Y : (⟨2, ![8192, k]⟩ : Shape).Idx → α} (h : Rows 8192 T Y) : Y = T :=
  funext fun y => h y (y 0).isLt

/-- Storing block `b` after the blocks before it. -/
theorem Rows.put {α : Type} {k : ℕ} {f : ℕ → (⟨2, ![2048, k]⟩ : Shape).Idx → α} {Y : (⟨2, ![8192, k]⟩ : Shape).Idx → α} {n : ℕ} (b : ℕ)
    (h : Rows n (rowsOf f) Y) (hn : n = 2048 * b) (r : ℕ) (hr : r = 2048 * b) :
    Rows (n + 2048) (rowsOf f) (VecWindow.put (s := (⟨2, ![8192, k]⟩ : Shape)) Y ![r, 0] (⟨2, ![2048, k]⟩ : Shape).size (f b)) := by
  subst hn hr
  intro y hy
  have h1 : (y 1).val < k := (y 1).isLt
  by_cases hlt : (y 0).val < 2048 * b
  · refine Eq.trans ?_ (h y hlt)
    unfold VecWindow.put
    refine dif_neg fun hc => ?_
    have : 2048 * b ≤ (y 0).val := (hc 0).1
    omega
  · have hq : (y 0).val / 2048 = b := by omega
    unfold VecWindow.put rowsOf
    rw [hq]
    have hc : ∀ a : Fin 2, (![2048 * b, 0] : Fin 2 → ℕ) a ≤ (y a).val ∧ (y a).val < (![2048 * b, 0] : Fin 2 → ℕ) a + (![2048, k] : Fin 2 → ℕ) a := by
      intro a
      match a with
      | ⟨0, _⟩ => exact ⟨show 2048 * b ≤ (y 0).val by omega, show (y 0).val < 2048 * b + 2048 by omega⟩
      | ⟨1, _⟩ => exact ⟨Nat.zero_le _, show (y 1).val < 0 + k by omega⟩
    refine (dif_pos hc).trans (congrArg (f b) (funext fun a => Fin.ext ?_))
    match a with
    | ⟨0, _⟩ => show (y 0).val - 2048 * b = (y 0).val % 2048; omega
    | ⟨1, _⟩ => show (y 1).val - 0 = (y 1).val; omega

variable (m : (ℓ : Loc nD τ sig) → Buf (Elt F) ℓ) (ρ : Dev nD → PrngReg)

/-! ## What is computed -/

/-- The weights the first point keeps. -/
def Wc (c : Dev nD) : Vec F S528x2048 .bf16 := wcat (iblk m c 1 (pt 0)) (iblk m c 5 (pt 0))
/-- The logits tile of block `n`. -/
def LT (c : Dev nD) (n : ℕ) : Vec F S1x16x2048 .f32 := ltOf (iblk m c 0 (pt n)) (Wc m c)
/-- The predictor's tile of block `n`. -/
def ZT (c : Dev nD) (n : ℕ) : Vec F S1x1x2048 .f32 :=
  ztOf (iblk m c 0 (pt n)) (Wc m c) (iblk m c 2 (pt n)) (iblk m c 3 (pt n)) (iblk m c 4 (pt n))
/-- The load sums after `n` blocks. -/
def AL (c : Dev nD) : ℕ → Vec F S16x1 .f32
  | 0 => load0
  | n + 1 => loadT (LT m c n) (AL c n)
/-- The entropy sum after `n` blocks. -/
def AE (c : Dev nD) : ℕ → Vec F S1x1 .f32
  | 0 => ent0
  | n + 1 => entT (LT m c n) (AE c n)
/-- The five results: logits, selected experts, expert weights, load variance, entropy. -/
def T6 (c : Dev nD) : Vec F S8192x16 .f32 := rowsOf fun n => logT (LT m c n)
/-- See `T6`. -/
def T7 (c : Dev nD) : Vec F S8192x4 .i32 := rowsOf fun n => idxT (LT m c n) (ZT m c n)
/-- See `T6`. -/
def T8 (c : Dev nD) : Vec F S8192x4 .f32 := rowsOf fun n => wtsT (LT m c n) (ZT m c n)
/-- See `T6`. -/
def T9 (c : Dev nD) : Vec F S1x1 .f32 := varOf (AL m c 4)
/-- See `T6`. -/
def T10 (c : Dev nD) : Vec F S1x1 .f32 := entOf (AE m c 4)

/-- How many rows of the row arrays are in after point `t`. -/
def rowsIn (t : ℕ) : ℕ := if t = 3 then 8192 else 2048 * t
/-- How many blocks the sums hold after point `t`. -/
def routed (t : ℕ) : ℕ := if t = 3 then 4 else t

/-! ## The scratch between points -/

/-- The scratch buffers. -/
abbrev sc0 : Memref sig .tc .vmem S528x2048 .bf16 := Memref.whole cc0_scratch0
/-- See `sc0`. -/
abbrev sc1 : Memref sig .tc .vmem S2x16x2048 .f32 := Memref.whole cc0_scratch1
/-- See `sc0`. -/
abbrev sc2 : Memref sig .tc .vmem S2x1x2048 .f32 := Memref.whole cc0_scratch2
/-- See `sc0`. -/
abbrev sc3 : Memref sig .tc .vmem S16x1 .f32 := Memref.whole cc0_scratch3
/-- See `sc0`. -/
abbrev sc4 : Memref sig .tc .smem S1x1 .f32 := Memref.whole cc0_scratch4

/-- The scratch at given contents, and the generator register at some state. -/
def Scr (c : Dev nD) (w : Vec F S528x2048 .bf16) (d1 : Vec F S2x16x2048 .f32) (d2 : Vec F S2x1x2048 .f32) (a : Vec F S16x1 .f32)
    (e : Vec F S1x1 .f32) : sProp 𝕄 :=
  iprop((owns (c : Thread nD τ) sc0 fullShare w ∗ owns (c : Thread nD τ) sc1 fullShare d1 ∗ owns (c : Thread nD τ) sc2 fullShare d2
    ∗ owns (c : Thread nD τ) sc3 fullShare a ∗ owns (c : Thread nD τ) sc4 fullShare e) ∗ ∃ r, prngReg c r)

/-- The scratch before the first point and after the last: at some contents. -/
theorem any_scratch (c : Dev nD) :
    (Pipeline.ΦA spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ ∃ r, prngReg c r) := by
  unfold Pipeline.ΦA; rw [scopedRest0_eq]; simp only [sc0, sc1, sc2, sc3, sc4, owns_whole]; try rfl

/-- The scratch after point `k`: the weights, the tiles of block `k` in its slot, and the sums so far. -/
def Carried (c : Dev nD) (k : ℕ) : sProp 𝕄 :=
  iprop(∃ d1 d2, ⌜∀ h, window (s := S2x16x2048) d1 ![k % 2, 0, 0] S1x16x2048.size h = LT m c k⌝
    ∗ ⌜∀ h, window (s := S2x1x2048) d2 ![k % 2, 0, 0] S1x1x2048.size h = ZT m c k⌝
    ∗ Scr c (Wc m c) d1 d2 (AL m c (routed k)) (AE m c (routed k)))

/-- The scratch before point `n`. -/
def Before (c : Dev nD) : ℕ → sProp 𝕄
  | 0 => Pipeline.ΦA spec0 c
  | k + 1 => Carried m c k

/-- The proof data: inputs are kept, the row arrays are filled block by block, the statistics are there after the last point. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => Rows (rowsIn t.val) (T6 m c) X
    | ⟨7, _⟩ => fun _ X => Rows (rowsIn t.val) (T7 m c) X
    | ⟨8, _⟩ => fun _ X => Rows (rowsIn t.val) (T8 m c) X
    | ⟨9, _⟩ => fun _ X => t.val = 3 → X = T9 m c
    | ⟨10, _⟩ => fun _ X => t.val = 3 → X = T10 m c
  Φ t := Before m c t.val
  q _ := fullShare
  owed _ := 0

/-- An input window's array is the one found at the start. -/
theorem A_eq (c : Dev nD) (w : Fin cfg0.W) : (rdat m c).A w = V m c (Pipeline.arrRef spec0 w) := by
  dsimp only [rdat]

/-! ## What a point finds -/

/-- Window 0 is found holding its block of the array. -/
theorem found0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; rfl
/-- Window 1 is found holding its block of the array. -/
theorem found1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; rfl
/-- Window 2 is found holding its block of the array. -/
theorem found2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; rfl
/-- Window 3 is found holding its block of the array. -/
theorem found3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; rfl
/-- Window 4 is found holding its block of the array. -/
theorem found4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [A_eq]; rfl
/-- Window 5 is found holding its block of the array. -/
theorem found5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rw [A_eq]; rfl

/-- An output window's buffer holds what the point before left. -/
theorem left_before (c : Dev nD) (w : Fin cfg0.W) (hw : (cfg0.win w).isOut = true)
    (hfl : ∀ t : Fin cfg0.N, (cfg0.win w).flush t = true ↔ t.val % 4 = 3) (t : Fin cfg0.N) (ht : t.val ≠ 0) (Y) (h : (rdat m c).Finds w t Y) :
    ∃ Z, (rdat m c).after w (pt (t.val - 1)) Z Y := by
  have hf : (cfg0.win w).fetch t = false := by
    unfold Window.fetch; rw [hw]; rfl
  have h4 : t.val < 4 := lt_of_lt_of_eq t.isLt (show cfg0.N = 4 from N_0)
  rcases ((rdat m c).finds_of_pos hf ht Y).mp h with hc | ⟨Z, -, hZ⟩
  · have := (hfl _).mp hc
    simp only at this
    omega
  · have e : pt (t.val - 1) = ⟨t.val - 1, Nat.lt_of_le_of_lt (Nat.sub_le _ _) t.isLt⟩ := Fin.ext (Nat.mod_eq_of_lt (by omega))
    exact ⟨Z, e ▸ hZ⟩

/-- The rows written before step `t` finishes a tile. -/
theorem rowsIn_pred {t : ℕ} (ht : t ≠ 0) (h4 : t < 4) : rowsIn ((t - 1) % 4) = 2048 * (t - 1) := by
  unfold rowsIn; rw [Nat.mod_eq_of_lt (by omega), if_neg (by omega)]

/-- Window 6 is found with the rows of the earlier tiles written. -/
theorem found6 (c : Dev nD) (t : Fin cfg0.N) (ht : t.val ≠ 0) (Y) (h : (rdat m c).Finds 6 t Y) : Rows (2048 * (t.val - 1)) (T6 m c) Y := by
  obtain ⟨Z, hZ⟩ := left_before m c 6 rfl flush0_6 t ht Y h
  exact rowsIn_pred ht (lt_of_lt_of_eq t.isLt (show cfg0.N = 4 from N_0)) ▸ hZ
/-- Window 7 is found with the rows of the earlier tiles written. -/
theorem found7 (c : Dev nD) (t : Fin cfg0.N) (ht : t.val ≠ 0) (Y) (h : (rdat m c).Finds 7 t Y) : Rows (2048 * (t.val - 1)) (T7 m c) Y := by
  obtain ⟨Z, hZ⟩ := left_before m c 7 rfl flush0_7 t ht Y h
  exact rowsIn_pred ht (lt_of_lt_of_eq t.isLt (show cfg0.N = 4 from N_0)) ▸ hZ
/-- Window 8 is found with the rows of the earlier tiles written. -/
theorem found8 (c : Dev nD) (t : Fin cfg0.N) (ht : t.val ≠ 0) (Y) (h : (rdat m c).Finds 8 t Y) : Rows (2048 * (t.val - 1)) (T8 m c) Y := by
  obtain ⟨Z, hZ⟩ := left_before m c 8 rfl flush0_8 t ht Y h
  exact rowsIn_pred ht (lt_of_lt_of_eq t.isLt (show cfg0.N = 4 from N_0)) ▸ hZ

/-! ## One point -/

/-- The body's row in the table of bodies. -/
theorem row_eq (t : Fin cfg0.N) : defs₀ (F := F) .tc cfg0.body (cfg0.bodyArgs t (cfg0.slots t)) = bodyAt0 t := by
  unfold defs₀; rw [Defs.onTc_tc]

/-- The staging buffers and the scratch at point `t`, at given contents. -/
abbrev HeldAt (c : Dev nD) (t : Fin cfg0.N) (x0 : Vec F S2048x2048 .f32) (x1 : Vec F S512x2048 .f32) (x2 : Vec F S1x512 .f32) (x3 : Vec F S1x512 .f32) (x4 : Vec F S1 .f32) (x5 : Vec F S16x2048 .f32) (y6 : Vec F S8192x16 .f32) (y7 : Vec F S8192x4 .i32) (y8 : Vec F S8192x4 .f32) (y9 : Vec F S1x1 .f32) (y10 : Vec F S1x1 .f32) (w : Vec F S528x2048 .bf16) (d1 : Vec F S2x16x2048 .f32) (d2 : Vec F S2x1x2048 .f32) (a : Vec F S16x1 .f32) (e : Vec F S1x1 .f32) : sProp 𝕄 :=
  Held c (st0_0 t) (st0_1 t) (st0_2 t) (st0_3 t) (st0_4 t) (st0_5 t) (st0_6 t) (st0_7 t) (st0_8 t) (st0_9 t) (st0_10 t) sc0 sc1 sc2 sc3 sc4
    x0 x1 x2 x3 x4 x5 y6 y7 y8 y9 y10 w d1 d2 a e

set_option maxHeartbeats 1600000 in
/-- A run of the body from what point `t` finds to what it must leave, as the obligation of the point. -/
theorem step (c : Dev nD) (t : Fin cfg0.N) (Y : (w : Fin cfg0.W) → (cfg0.win w).block.Idx → Elt F (cfg0.win w).elt)
    (w : Vec F S528x2048 .bf16) (d1 : Vec F S2x16x2048 .f32) (d2 : Vec F S2x1x2048 .f32) (a : Vec F S16x1 .f32) (e : Vec F S1x1 .f32)
    (y6 : Vec F S8192x16 .f32) (y7 : Vec F S8192x4 .i32) (y8 : Vec F S8192x4 .f32) (y9 : Vec F S1x1 .f32) (y10 : Vec F S1x1 .f32)
    (w' : Vec F S528x2048 .bf16) (d1' : Vec F S2x16x2048 .f32) (d2' : Vec F S2x1x2048 .f32) (a' : Vec F S16x1 .f32) (e' : Vec F S1x1 .f32)
    (h6 : (rdat m c).after 6 t (Y 6) y6) (h7 : (rdat m c).after 7 t (Y 7) y7) (h8 : (rdat m c).after 8 t (Y 8) y8)
    (h9 : (rdat m c).after 9 t (Y 9) y9) (h10 : (rdat m c).after 10 t (Y 10) y10)
    (hs : Scr c w' d1' d2' a' e' ⊢ Carried m c t.val)
    (hrun : ∀ K : PUnit → sProp 𝕄, iprop(HeldAt c t (Y 0) (Y 1) (Y 2) (Y 3) (Y 4) (Y 5) (Y 6) (Y 7) (Y 8) (Y 9) (Y 10) w d1 d2 a e
        ∗ (HeldAt c t (Y 0) (Y 1) (Y 2) (Y 3) (Y 4) (Y 5) y6 y7 y8 y9 y10 w' d1' d2' a' e' -∗ K ⟨⟩))
      ⊢ wp frame (wpE (defs₀ (F := F)) Variants.none c none) Set.univ (bodyAt0 t) K) :
    iprop(Scr c w d1 d2 a e ∗ (rdat m c).owesAt () t.castSucc
        ∗ bigSep Finset.univ fun w => owns c ((cfg0.win w).stage (cfg0.slots t w)) fullShare (Y w))
      ⊢ wp frame (wpE (defs₀ (F := F)) Variants.none c none) Set.univ (defs₀ (F := F) .tc cfg0.body (cfg0.bodyArgs t (cfg0.slots t))) fun _ =>
          iprop((rdat m c).Φ t.succ ∗ (rdat m c).owesAt () t.succ
            ∗ bigSep Finset.univ fun w => iprop(∃ X, ⌜(rdat m c).after w t (Y w) X⌝ ∗ owns c ((cfg0.win w).stage (cfg0.slots t w)) fullShare X)) := by
  rw [bigSep_W0, bigSep_W0, row_eq]
  have hΦ : (rdat m c).Φ t.succ = Carried m c t.val := rfl
  have ho : (rdat m c).owesAt () t.succ = (rdat m c).owesAt () t.castSucc := rfl
  rw [hΦ, ho]
  unfold Scr
  unfold HeldAt Held at hrun
  iintro ⟨⟨⟨HS0, HS1, HS2, HS3, HS4⟩, Hg⟩, Ho, H0, H1, H2, H3, H4, H5, H6, H7, H8, H9, H10⟩
  iapply (hrun _)
  isplitl [H0 H1 H2 H3 H4 H5 H6 H7 H8 H9 H10 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iexact HS4
  iintro ⟨H0, H1, H2, H3, H4, H5, H6, H7, H8, H9, H10, HS0, HS1, HS2, HS3, HS4⟩
  isplitl [HS0 HS1 HS2 HS3 HS4 Hg]
  · iapply hs
    unfold Scr
    isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; exact h6
  isplitl [H7]; · iexists _; isplitr; swap; · iexact H7
                  ipureintro; exact h7
  isplitl [H8]; · iexists _; isplitr; swap; · iexact H8
                  ipureintro; exact h8
  isplitl [H9]; · iexists _; isplitr; swap; · iexact H9
                  ipureintro; exact h9
  iexists _; isplitr; swap; · iexact H10
  ipureintro; exact h10

/-- The scratch a point leaves, from the tiles it has just stored. -/
theorem carry (c : Dev nD) (k : ℕ) (d1 : Vec F S2x16x2048 .f32) (d2 : Vec F S2x1x2048 .f32) (lt : Vec F S1x16x2048 .f32) (zt : Vec F S1x1x2048 .f32)
    (w : Vec F S528x2048 .bf16) (a : Vec F S16x1 .f32) (e : Vec F S1x1 .f32) (p : ℕ) (hp : p = k % 2) (hw : w = Wc m c) (hl : lt = LT m c k)
    (hz : zt = ZT m c k) (ha : a = AL m c (routed k)) (he : e = AE m c (routed k)) :
    Scr c w (put (s := S2x16x2048) d1 ![p, 0, 0] S1x16x2048.size lt) (put (s := S2x1x2048) d2 ![p, 0, 0] S1x1x2048.size zt) a e ⊢ Carried m c k := by
  subst hp hw hl hz ha he
  unfold Carried
  iintro H
  iexists (put (s := S2x16x2048) d1 ![k % 2, 0, 0] S1x16x2048.size (LT m c k)), (put (s := S2x1x2048) d2 ![k % 2, 0, 0] S1x1x2048.size (ZT m c k))
  isplitr
  · ipureintro; exact fun h => VecWindow.window_put_same (s := S2x16x2048) _ _ _ h _
  isplitr
  · ipureintro; exact fun h => VecWindow.window_put_same (s := S2x1x2048) _ _ _ h _
  iexact H

set_option maxHeartbeats 1600000 in
/-- Every point keeps to the proof data. -/
theorem obligation (c : Dev nD) : (rdat (F := F) m c).BodyObligation defs₀ Variants.none () Set.univ := by
  intro t Y hY
  have h4 : t.val < 4 := lt_of_lt_of_eq t.isLt (show cfg0.N = 4 from N_0)
  have e0 := found0 m c t _ (hY 0)
  have e1 := found1 m c t _ (hY 1)
  have e2 := found2 m c t _ (hY 2)
  have e3 := found3 m c t _ (hY 3)
  have e4 := found4 m c t _ (hY 4)
  have e5 := found5 m c t _ (hY 5)
  have ep := pt_val t
  have el : ltOf (Y 0) (Wc m c) = LT m c t.val := by unfold LT; rw [ep, ← e0]
  have ez : ztOf (Y 0) (Wc m c) (Y 2) (Y 3) (Y 4) = ZT m c t.val := by unfold ZT; rw [ep, ← e0, ← e2, ← e3, ← e4]
  by_cases ht : t.val = 0
  · have hΦ : (rdat m c).Φ t.castSucc = Pipeline.ΦA spec0 c := by show Before m c t.val = _; rw [ht]; rfl
    have ew : wcat (Y 1) (Y 5) = Wc m c := by unfold Wc; rw [← ht, ep, ← e1, ← e5]
    have none : ∀ {α : Type} {k : ℕ} (T X : (⟨2, ![8192, k]⟩ : Shape).Idx → α), Rows (rowsIn t.val) T X := fun T X y hy => by
      rw [ht] at hy; exact absurd hy (Nat.not_lt_zero _)
    rw [hΦ, any_scratch]
    iintro ⟨⟨⟨⟨%w, HS0⟩, ⟨%d1, HS1⟩, ⟨%d2, HS2⟩, ⟨%a, HS3⟩, ⟨%e, HS4⟩⟩, Hg⟩, Hr⟩
    iapply (step m c t Y w d1 d2 a e (Y 6) (Y 7) (Y 8) (Y 9) (Y 10) _ _ _ _ _ (none _ _) (none _ _) (none _ _) (fun h => by omega) (fun h => by omega)
      (carry m c t.val d1 d2 _ _ _ _ _ 0 (by rw [ht]) ew (by rw [ew, el]) (by rw [ew, ez]) (by rw [ht]; rfl) (by rw [ht]; rfl))
      (fun K => run_first c (grid0.coords t) _ _ _ _ _ _ _ _ _ _ _ _ _ _ _ _ _ _ _ _ _ _ _ _ _ _ _ _ _ _ _ _ _ _ _ _ _ _ _ _ _ _ _ _ _ _ _ _ ((at_first t).mpr ht)
        (fun h => (at_later t).mp h ht) (fun h => by have := (at_last t).mp h; omega) ((made_at t).1.trans (by rw [ht])) ((made_at t).2.trans (by rw [ht])) Set.univ K))
    unfold Scr
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    iexact Hr
  have f6 := found6 m c t ht _ (hY 6)
  have f7 := found7 m c t ht _ (hY 7)
  have f8 := found8 m c t ht _ (hY 8)
  obtain ⟨o3, o4, o5, o6⟩ := routed_at t ht
  have hr : routed (t.val - 1) = t.val - 1 := if_neg (by omega)
  have hs1 : ∀ {α : Type} (f : ℕ → α), f (t.val - 1 + 1) = f t.val := fun f => congrArg f (by omega)
  have hΦ : (rdat m c).Φ t.castSucc = Carried m c (t.val - 1) := by
    show Before m c t.val = _; rw [← hs1 (Before m c)]; rfl
  have hL : loadT (LT m c (t.val - 1)) (AL m c (t.val - 1)) = AL m c t.val := hs1 (AL m c)
  have hE : entT (LT m c (t.val - 1)) (AE m c (t.val - 1)) = AE m c t.val := hs1 (AE m c)
  rw [hΦ]
  unfold Carried
  rw [hr]
  by_cases h3 : t.val = 3
  · have g6 := (f6.put (t.val - 1) rfl 4096 (by omega)).put t.val (by omega) 6144 (by omega)
    have g7 := (f7.put (t.val - 1) rfl 4096 (by omega)).put t.val (by omega) 6144 (by omega)
    have g8 := (f8.put (t.val - 1) rfl 4096 (by omega)).put t.val (by omega) 6144 (by omega)
    have hn : 2048 * (t.val - 1) + 2048 + 2048 = rowsIn t.val := by unfold rowsIn; rw [if_pos h3]; omega
    have h0 : (t.val - 1) % 2 = 0 := by omega
    have hr3 : routed t.val = t.val + 1 := by unfold routed; rw [if_pos h3]; omega
    have hL4 : AL m c (t.val + 1) = AL m c 4 := by rw [h3]
    have hE4 : AE m c (t.val + 1) = AE m c 4 := by rw [h3]
    rw [hn] at g6 g7 g8
    iintro ⟨⟨%d1, %d2, %hd1, %hd2, HS⟩, Hr⟩
    iapply (step m c t Y (Wc m c) d1 d2 (AL m c (t.val - 1)) (AE m c (t.val - 1)) _ _ _ _ _ _ _ _ _ _
      (by rw [← el] at g6; exact g6) (by rw [← el, ← ez] at g7; exact g7) (by rw [← el, ← ez] at g8; exact g8)
      (fun _ => by rw [el, hL]; exact congrArg varOf hL4) (fun _ => by rw [el, hE]; exact congrArg entOf hE4)
      (carry m c t.val d1 d2 _ _ _ _ _ 1 (by rw [h3]) rfl el ez (by rw [el, hL, hr3]; rfl) (by rw [el, hE, hr3]; rfl))
      (fun K => run_last c (grid0.coords t) _ _ _ _ _ _ _ _ _ _ _ _ _ _ _ _ _ _ _ _ _ _ _ _ _ _ _ _ _ _ _ _ _ _ _ _ _ _ _ _ _ _ _ _ _ _ _ _
        (fun h => ht ((at_first t).mp h)) ((at_later t).mpr ht) ((at_last t).mpr h3) ((made_at t).1.trans (by rw [h3])) ((made_at t).2.trans (by rw [h3]))
        (o3.trans (by rw [h3])) (o4.trans (by rw [h3])) (o5.trans (by rw [h3])) (o6.trans (by rw [h3]))
        (LT m c (t.val - 1)) (ZT m c (t.val - 1)) (by rw [h0] at hd1; exact hd1) (by rw [h0] at hd2; exact hd2) Set.univ K))
    isplitl [HS]; · iexact HS
    iexact Hr
  · have g6 := f6.put (t.val - 1) rfl (2048 * (t.val - 1)) rfl
    have g7 := f7.put (t.val - 1) rfl (2048 * (t.val - 1)) rfl
    have g8 := f8.put (t.val - 1) rfl (2048 * (t.val - 1)) rfl
    have hn : 2048 * (t.val - 1) + 2048 = rowsIn t.val := by unfold rowsIn; rw [if_neg h3]; omega
    have hr3 : routed t.val = t.val := if_neg h3
    rw [hn] at g6 g7 g8
    iintro ⟨⟨%d1, %d2, %hd1, %hd2, HS⟩, Hr⟩
    iapply (step m c t Y (Wc m c) d1 d2 (AL m c (t.val - 1)) (AE m c (t.val - 1)) _ _ _ (Y 9) (Y 10) _ _ _ _ _
      g6 g7 g8 (fun h => absurd h h3) (fun h => absurd h h3)
      (carry m c t.val d1 d2 _ _ _ _ _ (t.val % 2) rfl rfl el ez (by rw [hL, hr3]) (by rw [hE, hr3]))
      (fun K => run_inner c (grid0.coords t) _ _ _ _ _ _ _ _ _ _ _ _ _ _ _ _ _ _ _ _ _ _ _ _ _ _ _ _ _ _ _ _ _ _ _ _ _ _ _ _ _ _ _ _ _ _ _ _
        (fun h => ht ((at_first t).mp h)) ((at_later t).mpr ht) (fun h => h3 ((at_last t).mp h)) (t.val % 2) ((t.val - 1) % 2) (2048 * (t.val - 1)) (by omega)
        (made_at t).1 (made_at t).2 o3 o4 o5 o6 (LT m c (t.val - 1)) (ZT m c (t.val - 1)) hd1 hd2 Set.univ K))
    isplitl [HS]; · iexact HS
    iexact Hr

end Cert.KernelIdeal.Router

end
-- ==== Proof.Ideal.Launch.lean ====
/-
  The router kernel launched: it ends, every argument array is unchanged, and the five result arrays hold what
  Data.lean computes.
-/
module

public import proofs.«01_k».proof.Proof.Ideal.Data

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the last point, its contents forgotten. -/
theorem forget (c : Dev nD) : (rdat m c).Φ (Fin.last cfg0.N) ⊢ Pipeline.ΦA spec0 c := by
  have e : (rdat m c).Φ (Fin.last cfg0.N) = Carried m c 3 := by
    show Before m c cfg0.N = _
    rw [show cfg0.N = 3 + 1 from N_0]; rfl
  rw [e, any_scratch]
  unfold Carried Scr
  iintro ⟨%d1, %d2, -, -, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The launch, and every semaphore at zero at the end. -/
theorem launched : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := obligation m) (hshare := fun c w => by unfold RDat.share; split <;> rfl) (howed := fun _ _ => rfl) (V := V m)
    (hmain := hmain m Variants.none) (hA := A_eq m) (hin := fun c => .rfl) (hout := forget m)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ?_, h.2⟩) (launched m ρ)
  obtain ⟨hw, hb⟩ := h.1 c
  have at_in : ∀ w : Fin cfg0.W, (cfg0.win w).isOut = false → r.2.mem ((cfg0.spec w).arr.view.loc (c.tc : Thread nD τ)) = V m c (Pipeline.arrRef spec0 w) := fun w ho => by
    have := hw w
    rw [RDat.ArrAt_in _ w ho] at this
    exact this.trans (A_eq m c w)
  exact ⟨(at_in 0 rfl).trans (V_main_arg0 m c), (at_in 5 rfl).trans (V_main_arg1 m c), (at_in 1 rfl).trans (V_main_arg2 m c),
    (hb main_arg3 (Pipeline.mem_restRefs_of main_arg3 (by decide) (by decide))).trans (V_main_arg3 m c),
    (at_in 3 rfl).trans (V_main_arg4 m c), (at_in 4 rfl).trans (V_main_arg5 m c)⟩

/-! ## The result arrays -/

/-- The last point. -/
abbrev tl : Fin cfg0.N := t0_3

/-- Window 6 is the whole of its array at the last step. -/
theorem whole6 : (cfg0.win 6).WholeAt tl := by decide +kernel
/-- Window 7 is the whole of its array at the last step. -/
theorem whole7 : (cfg0.win 7).WholeAt tl := by decide +kernel
/-- Window 8 is the whole of its array at the last step. -/
theorem whole8 : (cfg0.win 8).WholeAt tl := by decide +kernel
/-- Window 9 is the whole of its array at the last step. -/
theorem whole9 : (cfg0.win 9).WholeAt tl := by decide +kernel
/-- Window 10 is the whole of its array at the last step. -/
theorem whole10 : (cfg0.win 10).WholeAt tl := by decide +kernel

/-- The run's results, beside the frame. -/
theorem results : θ_run defs (onTc (τ := τ) (main (F := F))) ⟨m, fun _ => 0, ρ⟩ (fun r => (∀ c : Dev nD,
      r.2.mem ((c.tc : Thread nD τ).loc main_v0_0) = T6 m c
      ∧ r.2.mem ((c.tc : Thread nD τ).loc main_v0_1) = T7 m c
      ∧ r.2.mem ((c.tc : Thread nD τ).loc main_v0_2) = T8 m c
      ∧ r.2.mem ((c.tc : Thread nD τ).loc main_v0_3) = T9 m c
      ∧ r.2.mem ((c.tc : Thread nD τ).loc main_v0_4) = T10 m c)) := by
  refine (θ_run defs _ _).mono (fun r h c => ?_) (launched m ρ)
  obtain ⟨hw, -⟩ := h.1 c
  obtain ⟨X6, ⟨Y6, -, a6⟩, g6⟩ := RDat.ArrAt.emb_eq_of_wholeAt (rd := rdat m c) (hw 6) whole6
  obtain ⟨X7, ⟨Y7, -, a7⟩, g7⟩ := RDat.ArrAt.emb_eq_of_wholeAt (rd := rdat m c) (hw 7) whole7
  obtain ⟨X8, ⟨Y8, -, a8⟩, g8⟩ := RDat.ArrAt.emb_eq_of_wholeAt (rd := rdat m c) (hw 8) whole8
  obtain ⟨X9, ⟨Y9, -, a9⟩, g9⟩ := RDat.ArrAt.emb_eq_of_wholeAt (rd := rdat m c) (hw 9) whole9
  obtain ⟨X10, ⟨Y10, -, a10⟩, g10⟩ := RDat.ArrAt.emb_eq_of_wholeAt (rd := rdat m c) (hw 10) whole10
  have hr : ∀ {k : ℕ} {α : Type} {T X : (⟨2, ![8192, k]⟩ : Shape).Idx → α}, Rows (rowsIn 3) T X → X = T := fun h => Rows.eq h
  refine ⟨funext fun j => (g6 j).trans ?_, funext fun j => (g7 j).trans ?_, funext fun j => (g8 j).trans ?_, funext fun j => (g9 j).trans ?_, funext fun j => (g10 j).trans ?_⟩
  · exact congrFun (hr (T := T6 m c) a6) j
  · exact congrFun (hr (T := T7 m c) a7) j
  · exact congrFun (hr (T := T8 m c) a8) j
  · exact congrFun (show X9 = T9 m c from a9 rfl) j
  · exact congrFun (show X10 = T10 m c from a10 rfl) j

end Cert.KernelIdeal.Router

end
-- ==== Proof.Frames.lean ====
/- The frames: every program ends with its arguments unchanged and every semaphore counter at zero. -/
module

public import proofs.«01_k».proof.Defs
public import proofs.«01_k».proof.Proof.Gen.Kernel
public import proofs.«01_k».proof.Proof.Gen.ReferenceIdeal.Run
public import proofs.«01_k».proof.Proof.Ideal.Launch
public import Idealize.ShloMosaic.Adequacy

@[expose] public section

set_option maxRecDepth 16384

noncomputable section

namespace Cert.Proof

open Idealize.ShloMosaic Idealize.SL.Sem

/-- The two printed kernels have one text, so at the words their body tables are one table. -/
theorem tables_agree : @Cert.Kernel.defs₀ Bits _ Cert.Kernel.Gen.facts = @Cert.KernelIdeal.defs₀ Bits _ Cert.KernelIdeal.Gen.facts := by
  refine congrArg Defs.onTc ?_
  funext ℓ args
  match ℓ, args with
  | 0, (t, s) => rfl

/-- The kernel's frame over the words: the frame proved at any float instance, read at the words. -/
theorem frame_kernel : Cert.quiescent_Kernel := by
  intro m ρ _
  have h := Cert.KernelIdeal.Router.frame (F := Bits) m ρ
  unfold Cert.KernelIdeal.defs at h
  unfold Cert.Kernel.defs
  rw [tables_agree]
  exact h

/-- The kernel's frame over the reals. -/
theorem frame_kernelIdeal : Cert.quiescent_KernelIdeal := fun m ρ _ => Cert.KernelIdeal.Router.frame m ρ

/-- The reference's frame: it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) := by
  refine (θ_run Cert.ReferenceIdeal.defs _ _).mono (fun r h => ⟨fun c => ?_, sem_eq_zero_of_no_sems (by decide) r.2⟩) (Cert.ReferenceIdeal.Value.run m ρ)
  exact (h c).2.2.2.2.2

end Cert.Proof

end
-- ==== Proof.Rows.lean ====
/- One token's routing over the extended reals: its 16 logits, the four experts picked one by one, and the gate.
   Nothing here mentions a program. -/
module

public import Idealize.ShloMosaic.Lib.SortPrefix
public import Idealize.ShloMosaic.Lib.Pointwise
public import Idealize.ShloMosaic.Lib.IdealHost
public import Idealize.ShloMosaic.PureOps.Ideal.Laws

@[expose] public section

noncomputable section

namespace Cert.Router

open Idealize.ShloMosaic

/-! ## Picking the greatest -/

/-- The positions at which `l` is greatest. -/
def best (l : Fin 16 → EReal) : Finset (Fin 16) := Finset.univ.filter fun e => ∀ f, l f ≤ l e

/-- Some position is greatest. -/
theorem best_nonempty (l : Fin 16 → EReal) : (best l).Nonempty := by
  obtain ⟨e, -, he⟩ := Finset.exists_max_image Finset.univ l Finset.univ_nonempty
  exact ⟨e, Finset.mem_filter.mpr ⟨Finset.mem_univ _, fun f => he f (Finset.mem_univ _)⟩⟩

/-- The first position at which `l` is greatest. -/
def pick (l : Fin 16 → EReal) : Fin 16 := (best l).min' (best_nonempty l)

/-- No value exceeds the picked one. -/
theorem le_pick (l : Fin 16 → EReal) (f : Fin 16) : l f ≤ l (pick l) :=
  (Finset.mem_filter.mp ((best l).min'_mem (best_nonempty l))).2 f

/-- The pick is the first of the greatest positions. -/
theorem pick_le (l : Fin 16 → EReal) (e : Fin 16) (h : ∀ f, l f ≤ l e) : pick l ≤ e :=
  Finset.min'_le _ _ (Finset.mem_filter.mpr ⟨Finset.mem_univ _, h⟩)

/-- A row's maximum from minus infinity is its value at the picked position. -/
theorem fold_max (l : Fin 16 → EReal) : (Finset.univ : Finset (Fin 16)).fold max ⊥ l = l (pick l) := by
  refine le_antisymm ?_ ?_
  · exact Finset.fold_max_le _ |>.mpr ⟨bot_le, fun f _ => le_pick l f⟩
  · exact Finset.le_fold_max _ |>.mpr (Or.inr ⟨pick l, Finset.mem_univ _, le_rfl⟩)

/-- The row after `s` picks, each picked position set to minus infinity. -/
def rest (l : Fin 16 → EReal) : ℕ → Fin 16 → EReal
  | 0 => l
  | s + 1 => fun e => if e = pick (rest l s) then ⊥ else rest l s e

/-- The position of pick `s`. -/
def sel (l : Fin 16 → EReal) (s : ℕ) : Fin 16 := pick (rest l s)

/-- After `s` picks a position is minus infinity if it was picked, and unchanged if not. -/
theorem rest_eq (l : Fin 16 → EReal) (s : ℕ) (e : Fin 16) : rest l s e = if ∃ t < s, sel l t = e then ⊥ else l e := by
  induction s with
  | zero => simp [rest]
  | succ s ih =>
    show (if e = sel l s then ⊥ else rest l s e) = _
    by_cases h : e = sel l s
    · rw [if_pos h, if_pos ⟨s, Nat.lt_succ_self s, h.symm⟩]
    · rw [if_neg h, ih]
      refine if_congr ⟨fun ⟨t, ht, e'⟩ => ⟨t, Nat.lt_succ_of_lt ht, e'⟩, fun ⟨t, ht, e'⟩ => ⟨t, ?_, e'⟩⟩ rfl rfl
      rcases Nat.lt_succ_iff_lt_or_eq.mp ht with ht | rfl
      · exact ht
      · exact absurd e'.symm h

/-- A position not yet picked is unchanged. -/
theorem rest_of_new {l : Fin 16 → EReal} {s : ℕ} {e : Fin 16} (h : ∀ t < s, sel l t ≠ e) : rest l s e = l e := by
  rw [rest_eq, if_neg]
  exact fun ⟨t, ht, he⟩ => h t ht he

variable {l : Fin 16 → EReal} (hl : ∀ e, l e ≠ ⊥)

include hl in
/-- A pick is a new position, as long as one is left. -/
theorem sel_new {s : ℕ} (hs : s < 16) {t : ℕ} (ht : t < s) : sel l t ≠ sel l s := by
  have hcard : ((Finset.range s).image (sel l)).card < (Finset.univ : Finset (Fin 16)).card := by
    refine lt_of_le_of_lt Finset.card_image_le ?_
    rw [Finset.card_range, Finset.card_univ, Fintype.card_fin]; exact hs
  obtain ⟨e, -, he⟩ := Finset.exists_mem_notMem_of_card_lt_card hcard
  have hnew : ∀ t < s, sel l t ≠ e := fun t ht h => he (Finset.mem_image.mpr ⟨t, Finset.mem_range.mpr ht, h⟩)
  have h1 : l e ≤ rest l s (sel l s) := (rest_of_new hnew) ▸ le_pick (rest l s) e
  intro h
  rw [rest_eq, if_pos ⟨t, ht, h⟩] at h1
  exact hl e (le_bot_iff.mp h1)

include hl in
/-- The maximum after `s` picks is the logit of pick `s`. -/
theorem rest_sel {s : ℕ} (hs : s < 16) : rest l s (sel l s) = l (sel l s) :=
  rest_of_new fun _ ht => sel_new hl hs ht

include hl in
/-- A position not picked before pick `s` is not greater than it. -/
theorem le_sel {s : ℕ} (hs : s < 16) {e : Fin 16} (h : ∀ t < s, sel l t ≠ e) : l e ≤ l (sel l s) := by
  rw [← rest_of_new h, ← rest_sel hl hs]
  exact le_pick _ _

include hl in
/-- Of those equal to pick `s` it is the first. -/
theorem sel_le {s : ℕ} (hs : s < 16) {e : Fin 16} (h : ∀ t < s, sel l t ≠ e) (he : l e = l (sel l s)) : sel l s ≤ e := by
  refine pick_le _ _ fun f => ?_
  rw [rest_of_new h, he, ← rest_sel hl hs]
  exact le_pick _ _

/-- The signed minimum of words is the minimum of their values. -/
theorem minsi_toInt (a b : BitVec 32) : (IntOp.minsi a b).toInt = min a.toInt b.toInt := by
  simp only [IntOp.minsi, BitVec.slt, BitVec.sle]
  split_ifs with h <;> simp at h <;> omega

/-- The word of a small number has that value. -/
theorem ofNat_toInt {n : ℕ} (h : n < 2147483648) : (BitVec.ofNat 32 n).toInt = n := by
  rw [BitVec.toInt_ofNat', Int.bmod_eq_of_le (by norm_num) (by norm_num; omega)]

/-- The least row number at which a row has its maximum, with 16 elsewhere. -/
theorem fold_first (l : Fin 16 → EReal) :
    (Finset.univ : Finset (Fin 16)).fold IntOp.minsi 2147483647#32
      (fun e => if l e = l (pick l) then BitVec.ofNat 32 e.val else 16#32) = BitVec.ofNat 32 (pick l).val := by
  have hp : (pick l).val < 16 := (pick l).isLt
  refine BitVec.eq_of_toInt_eq ?_
  rw [← Finset.fold_hom (op' := min) minsi_toInt, ofNat_toInt (n := (pick l).val) (by omega)]
  refine le_antisymm ?_ ?_
  · refine (Finset.fold_min_le _).mpr (Or.inr ⟨pick l, Finset.mem_univ _, ?_⟩)
    rw [if_pos rfl, ofNat_toInt (by omega)]
  · refine (Finset.le_fold_min _).mpr ⟨?_, fun e _ => ?_⟩
    · have : (2147483647#32 : BitVec 32).toInt = 2147483647 := by decide
      omega
    · split_ifs with h
      · have he : e.val < 16 := e.isLt
        rw [ofNat_toInt (n := e.val) (by omega)]
        have := pick_le l e fun f => h ▸ le_pick l f
        exact_mod_cast this
      · have : (16#32 : BitVec 32).toInt = 16 := by decide
        omega

/-- Words of row numbers are equal only for equal rows. -/
theorem ofNat_inj (e f : Fin 16) : BitVec.ofNat 32 e.val = BitVec.ofNat 32 f.val ↔ e = f := by
  refine ⟨fun h => ?_, fun h => h ▸ rfl⟩
  have := congrArg BitVec.toNat h
  simp only [BitVec.toNat_ofNat] at this
  exact Fin.ext (by omega)

/-- Greater first, and of equals the first: the order of a stable top-k. -/
abbrev ahead (l : Fin 16 → EReal) : Fin 16 → Fin 16 → Bool :=
  fun k k' => decide (l k' < l k) || (decide (l k = l k') && decide (k < k'))

/-- The order of the sort is total. -/
theorem ahead_total (l : Fin 16 → EReal) : StrictTotalBefore (ahead l) :=
  StrictTotalBefore.of_key_then_position (fun a b : EReal => decide (b < a)) l (fun a => by simp)
    (fun a b c hab hbc => by simp only [decide_eq_true_eq] at *; exact hbc.trans hab)
    (fun a b => by simp only [decide_eq_true_eq]; rcases lt_trichotomy a b with h | h | h
                   · exact Or.inr (Or.inr h)
                   · exact Or.inr (Or.inl h)
                   · exact Or.inl h)

/-- The host's comparison sorts a list of increasing positions as `ahead` does. -/
theorem stableSort_ahead (l : Fin 16 → EReal) (L : List (Fin 16)) (hL : L.Pairwise (· < ·)) :
    stableSort (fun k k' : Fin 16 => (FloatOps.cmpfTotal (F := Ideal) (φ := .f32) .gt (l k) (l k') == 1#1)) L = stableSort (ahead l) L := by
  induction L with
  | nil => rfl
  | cons a L ih =>
    rw [List.pairwise_cons] at hL
    unfold stableSort
    rw [ih hL.2]
    refine insertBefore_congr _ _ a _ fun b hb => ?_
    have hab : a < b := hL.1 b ((perm_stableSort (ahead l) L).mem_iff.mp hb)
    have : (FloatOps.cmpfTotal (F := Ideal) (φ := .f32) .gt (l b) (l a)) = BitVec.ofBool (decide (l b > l a)) := rfl
    rw [this]
    have hba : ¬ b < a := not_lt.mpr hab.le
    by_cases h : l a < l b <;> simp [ahead, h, hba]

include hl in
/-- The first four of the host's sort are the four picks. -/
theorem sortedFrom_sel (s : Fin 4) :
    sortedFrom (fun k k' : Fin 16 => (FloatOps.cmpfTotal (F := Ideal) (φ := .f32) .gt (l k) (l k') == 1#1)) (s.castLE (by decide)) = sel l s := by
  have e : ∀ k : Fin 16, sortedFrom (fun k k' : Fin 16 => (FloatOps.cmpfTotal (F := Ideal) (φ := .f32) .gt (l k) (l k') == 1#1)) k
      = sortedFrom (ahead l) k := fun k => by
    have same : ∀ (A B : List (Fin 16)) (ha : 16 = A.length) (hb : 16 = B.length), A = B →
        A.get (Fin.cast ha k) = B.get (Fin.cast hb k) := by rintro A _ ha hb rfl; rfl
    exact same _ _ _ _ (stableSort_ahead l (List.finRange 16) (List.pairwise_lt_finRange 16))
  rw [e]
  have h16 : ∀ i : Fin 4, i.val < 16 := fun i => by omega
  refine (ahead_total l).sortedFrom_eq_of_prefix (by decide) (fun i : Fin 4 => sel l i) ?_ ?_ ?_ s
  · intro i j h
    by_contra hne
    rcases lt_or_gt_of_ne (fun h' => hne (Fin.ext h') : i.val ≠ j.val) with hij | hij
    · exact sel_new hl (h16 j) hij h
    · exact sel_new hl (h16 i) hij h.symm
  · intro i j hij
    refine (ahead_total l).asymm _ _ ?_
    have hnew : ∀ t < i.val, sel l t ≠ sel l j := fun t ht => sel_new hl (h16 j) (ht.trans hij)
    rcases lt_or_eq_of_le (le_sel hl (h16 i) hnew) with h | h
    · simp [ahead, h]
    · have h1 := sel_le hl (h16 i) hnew h
      have h2 := lt_of_le_of_ne h1 (sel_new hl (h16 j) hij)
      simp [ahead, h, h2]
  · intro i p hp
    refine Bool.eq_false_iff.mpr fun hh => ?_
    have hnew : ∀ t < i.val, sel l t ≠ p := fun t ht => hp ⟨t, ht.trans i.isLt⟩
    simp only [ahead, Bool.or_eq_true, Bool.and_eq_true, decide_eq_true_eq] at hh
    rcases hh with hh | ⟨he, hlt⟩
    · exact absurd (le_sel hl (h16 i) hnew) (not_le.mpr hh)
    · exact absurd (sel_le hl (h16 i) hnew he) (not_le.mpr hlt)

/-! ## The gate -/

/-- The bits of one half. -/
theorem half : Ideal.ofBits .f32 0x3F000000#32 = ((1 / 2 : ℝ) : EReal) := by
  simp [Ideal.ofBits, Ideal.ieee]
  rw [← EReal.coe_mul]
  norm_num

/-- The predictor is above one half after the sigmoid exactly if it is above zero before it. -/
theorem gate (z : EReal) : Ideal.ofBits .f32 0x3F000000#32 < Ideal.div 1 (1 + Ideal.exp (-z)) ↔ 0 < z := by
  rw [half]
  induction z using EReal.rec with
  | bot =>
    rw [EReal.neg_bot, show Ideal.exp ⊤ = ⊤ from rfl, EReal.add_top_of_ne_bot (by decide), Ideal.div, if_neg (by decide)]
    simp
  | top =>
    rw [EReal.neg_top, show Ideal.exp ⊥ = 0 from rfl, add_zero, Ideal.div, if_neg (by simp), one_mul, inv_one,
      show (1 : EReal) = ((1 : ℝ) : EReal) from rfl, EReal.coe_lt_coe_iff]
    norm_num
  | coe r =>
    have h : (1 : EReal) + Ideal.exp (-(r : EReal)) = ((1 + Real.exp (-r) : ℝ) : EReal) := by
      rw [← EReal.coe_neg]; rfl
    have hp : (0 : ℝ) < 1 + Real.exp (-r) := by positivity
    rw [h, Ideal.div, if_neg (by exact_mod_cast hp.ne'), one_mul, ← EReal.coe_inv, EReal.coe_lt_coe_iff]
    rw [show (0 : EReal) = ((0 : ℝ) : EReal) from rfl, EReal.coe_lt_coe_iff, one_div, inv_lt_inv₀ (by norm_num) hp]
    constructor
    · intro h'
      have : Real.exp (-r) < 1 := by linarith
      have := Real.exp_lt_one_iff.mp this
      linarith
    · intro h'
      have : Real.exp (-r) < 1 := Real.exp_lt_one_iff.mpr (by linarith)
      linarith

/-! ## What a token's results are -/

/-- Whether pick `s` of a token counts: the first always, the others if the predictor is above zero. -/
abbrev kept (z : EReal) (s : Fin 4) : Prop := s = 0 ∨ 0 < z

open Classical in
/-- The number of expert `s` of a token. -/
def idxRow (l : Fin 16 → EReal) (z : EReal) (s : Fin 4) : BitVec 32 := if kept z s then BitVec.ofNat 32 (sel l s).val else 0#32

open Classical in
/-- The weight of expert `s` before it is normalized. -/
def expRow (l : Fin 16 → EReal) (z : EReal) (s : Fin 4) : EReal := if kept z s then Ideal.exp (l (sel l s) - l (sel l 0)) else 0

/-- The weight of expert `s`. -/
def wtRow (l : Fin 16 → EReal) (z : EReal) (s : Fin 4) : EReal := Ideal.div (expRow l z s) (∑ t : Fin 4, expRow l z t)

/-- The probability of expert `e`. -/
def probRow (l : Fin 16 → EReal) (e : Fin 16) : EReal :=
  Ideal.div (Ideal.exp (l e - l (pick l))) (∑ f : Fin 16, Ideal.exp (l f - l (pick l)))

/-- What expert `e` adds to the entropy, up to its sign. -/
def entRow (l : Fin 16 → EReal) (e : Fin 16) : EReal :=
  probRow l e * Ideal.log (probRow l e + Ideal.ofBits .f32 0x322BCC77#32)

/-- The variance of the mean probabilities, from the 16 sums of probabilities. -/
def varRow (u : Fin 16 → EReal) : EReal :=
  Ideal.div (∑ e : Fin 16, (Ideal.div (u e) (Ideal.ofBits .f32 0x46000000#32)
      - Ideal.div (∑ f : Fin 16, Ideal.div (u f) (Ideal.ofBits .f32 0x46000000#32)) (Ideal.ofBits .f32 0x41800000#32))
    * (Ideal.div (u e) (Ideal.ofBits .f32 0x46000000#32)
      - Ideal.div (∑ f : Fin 16, Ideal.div (u f) (Ideal.ofBits .f32 0x46000000#32)) (Ideal.ofBits .f32 0x41800000#32)))
    (Ideal.ofBits .f32 0x41700000#32)

/-- The predictor of a token before the sigmoid: `x` is the token, `w1` a row a hidden unit. -/
def predRow (x : Fin 2048 → EReal) (w1 : Fin 512 → Fin 2048 → EReal) (b1 w2 : Fin 512 → EReal) (b2 : EReal) : EReal :=
  (∑ j : Fin 512, max ((∑ k : Fin 2048, x k * w1 j k) + b1 j) 0 * w2 j) + b2

/-! ## Finite values -/

/-- A value that is a real number. -/
def IsReal (x : EReal) : Prop := ∃ r : ℝ, x = r

/-- A sum of two reals is real. -/
theorem IsReal.add {x y : EReal} : IsReal x → IsReal y → IsReal (x + y) := by
  rintro ⟨a, rfl⟩ ⟨b, rfl⟩; exact ⟨a + b, (EReal.coe_add a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A real is not minus infinity. -/
theorem IsReal.ne_bot {x : EReal} : IsReal x → x ≠ ⊥ := by rintro ⟨a, rfl⟩; exact EReal.coe_ne_bot a

/-- The negated sum of real values is the sum of the negated ones. -/
theorem neg_sum {ι : Type} (s : Finset ι) (f : ι → EReal) (h : ∀ i, IsReal (f i)) : ∑ i ∈ s, (0 - f i) = -∑ i ∈ s, f i := by
  classical
  induction s using Finset.induction_on with
  | empty => simp
  | insert a s ha ih =>
    obtain ⟨x, hx⟩ := h a
    obtain ⟨y, hy⟩ := IsReal.sum s f h
    rw [Finset.sum_insert ha, Finset.sum_insert ha, ih, hx, hy, zero_sub]
    norm_cast
    rw [neg_add]

/-- The sum of positive real values over the experts is a positive real. -/
theorem sum_pos_real (f : Fin 16 → EReal) (h : ∀ e, ∃ r : ℝ, 0 < r ∧ f e = r) : ∃ r : ℝ, 0 < r ∧ ∑ e, f e = r := by
  choose g hg hf using h
  refine ⟨∑ e, g e, Finset.sum_pos (fun e _ => hg e) Finset.univ_nonempty, ?_⟩
  rw [Finset.sum_congr rfl fun e _ => hf e]
  induction (Finset.univ : Finset (Fin 16)) using Finset.induction_on with
  | empty => simp
  | insert a s ha ih => rw [Finset.sum_insert ha, Finset.sum_insert ha, ih, EReal.coe_add]

/-- A probability of real logits is a positive real. -/
theorem probRow_real (l : Fin 16 → EReal) (hl : ∀ e, IsReal (l e)) (e : Fin 16) : ∃ r : ℝ, 0 < r ∧ probRow l e = r := by
  have hx : ∀ f, ∃ r : ℝ, 0 < r ∧ Ideal.exp (l f - l (pick l)) = r := fun f => by
    obtain ⟨a, ha⟩ := hl f
    obtain ⟨b, hb⟩ := hl (pick l)
    exact ⟨Real.exp (a - b), Real.exp_pos _, by rw [ha, hb, ← EReal.coe_sub]; rfl⟩
  obtain ⟨a, ha, ea⟩ := hx e
  obtain ⟨b, hb, eb⟩ := sum_pos_real _ hx
  refine ⟨a * b⁻¹, by positivity, ?_⟩
  rw [probRow, ea, eb, Ideal.div, if_neg (by exact_mod_cast hb.ne'), ← EReal.coe_inv, ← EReal.coe_mul]

/-- The small constant inside the logarithm is a positive real. -/
theorem eps_real : ∃ r : ℝ, 0 < r ∧ Ideal.ofBits .f32 0x322BCC77#32 = r := by
  refine ⟨11258999 * (2 ^ 50)⁻¹, by positivity, ?_⟩
  simp [Ideal.ofBits, Ideal.ieee]

/-- What an expert adds to the entropy is real, the logits being real. -/
theorem entRow_real (l : Fin 16 → EReal) (hl : ∀ e, IsReal (l e)) (e : Fin 16) : IsReal (entRow l e) := by
  obtain ⟨p, hp, ep⟩ := probRow_real l hl e
  obtain ⟨c, hc, ec⟩ := eps_real
  refine IsReal.mul ⟨p, ep⟩ ⟨Real.log (p + c), ?_⟩
  rw [ep, ec, ← EReal.coe_add]
  exact if_neg (not_le.mpr (add_pos hp hc))

end Cert.Router

end
-- ==== Proof.Ref.lean ====
/-
  The reference's results over the extended reals, read token by token: each is the token's own function of its 16
  logits and its predictor.
-/
module

public import proofs.«01_k».proof.Proof.Gen.ReferenceIdeal.Run
public import proofs.«01_k».proof.Proof.Rows
public import Idealize.ShloMosaic.Lib.Pipeline.ValueKit

@[expose] public section

set_option maxRecDepth 16384

noncomputable section

namespace Cert.ReferenceIdeal.Router

open Idealize.ShloMosaic Idealize.ShloMosaic.TcCoe Cert.ReferenceIdeal Cert.ReferenceIdeal.Gen Cert.Router

/-- The logits. -/
def logits (x : FVec Ideal S8192x2048 .f32) (wr : FVec Ideal S16x2048 .f32) : FVec Ideal S8192x16 .f32 :=
  Host.dotGeneral dot_S8192x2048_S2048x16_S8192x16_1_0_0_1_n_n none x (transpose S2048x16 [1, 0] wr transposes_S16x2048_S2048x16_1_0)

/-- The predictor before the sigmoid. -/
def pred (x : FVec Ideal S8192x2048 .f32) (w1 : FVec Ideal S512x2048 .f32) (b1 : FVec Ideal S512 .f32)
    (w2 : FVec Ideal S1x512 .f32) (b2 : FVec Ideal S1 .f32) : FVec Ideal S8192x1 .f32 :=
  addf (Host.dotGeneral dot_S8192x512_S512x1_S8192x1_1_0_0_1_n_n none
      (maximumf (addf (Host.dotGeneral dot_S8192x2048_S2048x512_S8192x512_1_0_0_1_n_n none x
          (transpose S2048x512 [1, 0] w1 transposes_S512x2048_S2048x512_1_0))
        (broadcastInDim S8192x512 ![0, 1] bcast_S1x512_S8192x512_0_1 (broadcastInDim S1x512 ![1] bcast_S512_S1x512_1 b1)))
        (broadcastInDim S8192x512 ![] bcast_S_S8192x512 (constant S_ .f32 0x00000000#32)))
      (transpose S512x1 [1, 0] w2 transposes_S1x512_S512x1_1_0))
    (broadcastInDim S8192x1 ![0, 1] bcast_S1x1_S8192x1_0_1 (broadcastInDim S1x1 ![1] bcast_S1_S1x1_1 b2))

/-- The mask of the picks that count. -/
def mask (z : FVec Ideal S8192x1 .f32) : IVec S8192x4 1 :=
  cmpi .slt (broadcastInDim S8192x4 ![0, 1] bcast_S1x4_S8192x4_0_1 (broadcastInDim S1x4 ![1] bcast_S4_S1x4_1 (iotaInDim S4 32 0)))
    (broadcastInDim S8192x4 ![0, 1] bcast_S8192x1_S8192x4_0_1 (broadcastInDim S8192x1 ![0] bcast_S8192_S8192x1_0
      (select (cmpf .ogt (shapeCast S8192 (Host.divf (broadcastInDim S8192x1 ![] bcast_S_S8192x1 (constant S_ .f32 0x3F800000#32))
          (addf (broadcastInDim S8192x1 ![] bcast_S_S8192x1 (constant S_ .f32 0x3F800000#32)) (Host.exp (Host.negf z))))
          shapeCasts_S8192x1_S8192) (broadcastInDim S8192 ![] bcast_S_S8192 (constant S_ .f32 0x3F000000#32)))
        (broadcastInDim S8192 ![] bcast_S_S8192 (constantI S_ 32 4#32)) (broadcastInDim S8192 ![] bcast_S_S8192 (constantI S_ 32 1#32)))))

/-- The logits of the four picks, and their experts. -/
def vals (L : FVec Ideal S8192x16 .f32) : FVec Ideal S8192x4 .f32 :=
  (Host.topK S8192x4 1 (FloatOps.cmpfTotal .gt) L sliceFits_S8192x16_S8192x4).1
/-- See `vals`. -/
def inds (L : FVec Ideal S8192x16 .f32) : IVec S8192x4 32 :=
  (Host.topK S8192x4 1 (FloatOps.cmpfTotal .gt) L sliceFits_S8192x16_S8192x4).2

/-- The selected experts. -/
def idx (L : FVec Ideal S8192x16 .f32) (z : FVec Ideal S8192x1 .f32) : IVec S8192x4 32 :=
  select (mask z) (inds L) (broadcastInDim S8192x4 ![] bcast_S_S8192x4 (constantI S_ 32 0#32))

/-- A column of one value a token, over the four picks. -/
def over4 (v : FVec Ideal S8192 .f32) : FVec Ideal S8192x4 .f32 :=
  broadcastInDim S8192x4 ![0, 1] bcast_S8192x1_S8192x4_0_1 (broadcastInDim S8192x1 ![0] bcast_S8192_S8192x1_0 v)

/-- The greatest logit of a token's picks. -/
def most (L : FVec Ideal S8192x16 .f32) (z : FVec Ideal S8192x1 .f32) : FVec Ideal S8192 .f32 :=
  Host.reduce FloatOps.maximumf (select (mask z) (vals L) (broadcastInDim S8192x4 ![] bcast_S_S8192x4 (constant S_ .f32 0xFF800000#32)))
    (constant S_ .f32 0xFF800000#32) reducesTo_S8192x4_S8192_d1 h_S_

/-- The weights before they are normalized. -/
def exps (L : FVec Ideal S8192x16 .f32) (z : FVec Ideal S8192x1 .f32) : FVec Ideal S8192x4 .f32 :=
  select (mask z) (Host.exp (subf (vals L) (over4 (most L z))))
    (broadcastInDim S8192x4 ![] bcast_S_S8192x4 (constant S_ .f32 0x00000000#32))

/-- The expert weights. -/
def wts (L : FVec Ideal S8192x16 .f32) (z : FVec Ideal S8192x1 .f32) : FVec Ideal S8192x4 .f32 :=
  Host.divf (exps L z) (over4 (Host.reduceAdd (exps L z) (constant S_ .f32 0x00000000#32) reducesTo_S8192x4_S8192_d1 h_S_))

/-- A column of one value a token, over the experts. -/
def over16 (v : FVec Ideal S8192 .f32) : FVec Ideal S8192x16 .f32 :=
  broadcastInDim S8192x16 ![0, 1] bcast_S8192x1_S8192x16_0_1 (broadcastInDim S8192x1 ![0] bcast_S8192_S8192x1_0 v)

/-- The exponentials of the logits less their greatest. -/
def pexps (L : FVec Ideal S8192x16 .f32) : FVec Ideal S8192x16 .f32 :=
  Host.exp (subf L (over16 (maximumf (broadcastInDim S8192 ![] bcast_S_S8192 (constant S_ .f32 0xFF800000#32))
    (Host.reduce FloatOps.maximumf L (constant S_ .f32 0xFF800000#32) reducesTo_S8192x16_S8192_d1 h_S_))))

/-- The probabilities. -/
def probs (L : FVec Ideal S8192x16 .f32) : FVec Ideal S8192x16 .f32 :=
  Host.divf (pexps L) (over16 (Host.reduceAdd (pexps L) (constant S_ .f32 0x00000000#32) reducesTo_S8192x16_S8192_d1 h_S_))

/-- The mean probabilities. -/
def means (P : FVec Ideal S8192x16 .f32) : FVec Ideal S16 .f32 :=
  Host.divf (Host.reduceAdd P (constant S_ .f32 0x00000000#32) reducesTo_S8192x16_S16_d0 h_S_)
    (broadcastInDim S16 ![] bcast_S_S16 (constant S_ .f32 0x46000000#32))

/-- The deviations of the mean probabilities from their mean. -/
def devs (M : FVec Ideal S16 .f32) : FVec Ideal S16 .f32 :=
  subf M (broadcastInDim S16 ![0] bcast_S1_S16_0 (Host.divf
    (broadcastInDim S1 ![] bcast_S_S1 (Host.reduceAdd M (constant S_ .f32 0x00000000#32) reducesTo_S16_S_d0 h_S_))
    (broadcastInDim S1 ![] bcast_S_S1 (constant S_ .f32 0x41800000#32))))

/-- The number of experts less one. -/
def less1 : FVec Ideal S_ .f32 := subf (constant S_ .f32 0x41800000#32) (sitofp .f32 (constantI S_ 32 1#32))

/-- The variance. -/
def var (P : FVec Ideal S8192x16 .f32) : FVec Ideal S1x1 .f32 :=
  shapeCast S1x1 (select (cmpf .ogt less1 (constant S_ .f32 0x00000000#32))
    (Host.divf (Host.reduceAdd (mulf (devs (means P)) (devs (means P))) (constant S_ .f32 0x00000000#32) reducesTo_S16_S_d0 h_S_) less1)
    (constant S_ .f32 0x7FC00000#32)) shapeCasts_S_S1x1

/-- The entropy. -/
def ent (P : FVec Ideal S8192x16 .f32) : FVec Ideal S1x1 .f32 :=
  shapeCast S1x1 (Host.negf (Host.divf (Host.reduceAdd (Host.reduceAdd (mulf P (Host.log (addf P
      (broadcastInDim S8192x16 ![] bcast_S_S8192x16 (constant S_ .f32 0x322BCC77#32)))))
    (constant S_ .f32 0x00000000#32) reducesTo_S8192x16_S8192_d1 h_S_) (constant S_ .f32 0x00000000#32) reducesTo_S8192_S_d0 h_S_)
    (constant S_ .f32 0x46000000#32))) shapeCasts_S_S1x1

/-- A logit is the product of a token with an expert's weights. -/
theorem logits_read (x : FVec Ideal S8192x2048 .f32) (wr : FVec Ideal S16x2048 .f32) (r : Fin 8192) (e : Fin 16) :
    logits x wr (ix2 r e) = ∑ k : Fin 2048, x (ix2 r k) * wr (ix2 e k) := by
  pointwise [logits]

/-- The predictor's value for a token, before the logistic function. -/
theorem pred_read (x : FVec Ideal S8192x2048 .f32) (w1 : FVec Ideal S512x2048 .f32) (b1 : FVec Ideal S512 .f32)
    (w2 : FVec Ideal S1x512 .f32) (b2 : FVec Ideal S1 .f32) (r : Fin 8192) :
    pred x w1 b1 w2 b2 (ix2 r 0) = predRow (fun k => x (ix2 r k)) (fun j k => w1 (ix2 j k)) (fun j => b1 (ix1 j))
      (fun j => w2 (ix2 0 j)) (b2 (ix1 0)) := by
  pointwise [pred]
  rfl

/-- The logits of one token. -/
abbrev row (L : FVec Ideal S8192x16 .f32) (r : Fin 8192) : Fin 16 → EReal := fun e => L (ix2 r e)

open Classical in
/-- The comparison of a pick's number with the count, as a choice. -/
theorem below_select {α : Type} (s : Fin 4) (P : Prop) (a b : α) :
    Scalar.select (IntOp.cmpi .slt (BitVec.ofNat 32 s.val) (Scalar.select (BitVec.ofBool (decide P)) 4#32 1#32)) a b
      = if s = 0 ∨ P then a else b := by
  by_cases hP : P <;> match s with
    | 0 => simp [Scalar.select, IntOp.cmpi, hP]
    | 1 => simp [Scalar.select, IntOp.cmpi, hP]
    | 2 => simp [Scalar.select, IntOp.cmpi, hP]
    | 3 => simp [Scalar.select, IntOp.cmpi, hP]

open Classical in
theorem mask_read {α : Type} (z : FVec Ideal S8192x1 .f32) (r : Fin 8192) (s : Fin 4) (a b : α) :
    Scalar.select (mask z (ix2 r s)) a b = if kept (z (ix2 r 0)) s then a else b := by
  refine Eq.trans ?_ ((below_select s (Ideal.ofBits .f32 0x3F000000#32 < Ideal.div 1 (1 + Ideal.exp (-(z (ix2 r 0))))) a b).trans ?_)
  · refine congrArg (Scalar.select · a b) ?_
    pointwise [mask]
    congr
  · simp only [gate]

/-- Along a token's row. -/
theorem along_row (r : Fin 8192) (c k : Fin 16) :
    (ix2 r c : S8192x16.Idx).along 1 k = ix2 r k := by
  funext d; match d with | 0 => rfl | 1 => rfl

/-- Where a token's pick stands in its sorted row. -/
theorem sorted_row (L : FVec Ideal S8192x16 .f32) (r : Fin 8192) (hl : ∀ e, row L r e ≠ ⊥) (s : Fin 4) (c : Fin 16) (h : s.val < 16) :
    sortedFrom (fun k k' => FloatOps.cmpfTotal (F := Ideal) (φ := .f32) .gt (L ((ix2 r c : S8192x16.Idx).along 1 k)) (L ((ix2 r c : S8192x16.Idx).along 1 k')) == 1#1)
      (⟨s.val, h⟩ : Fin 16) = sel (row L r) s := by
  have hB : (fun k k' => FloatOps.cmpfTotal (F := Ideal) (φ := .f32) .gt (L ((ix2 r c : S8192x16.Idx).along 1 k)) (L ((ix2 r c : S8192x16.Idx).along 1 k')) == 1#1)
      = fun k k' : Fin 16 => FloatOps.cmpfTotal (F := Ideal) (φ := .f32) .gt (row L r k) (row L r k') == 1#1 := by
    funext k k'
    exact congrArg₂ (fun i j => FloatOps.cmpfTotal (F := Ideal) (φ := .f32) .gt (L i) (L j) == 1#1) (along_row r c k) (along_row r c k')
  exact (congrFun (congrArg sortedFrom hB) _).trans (sortedFrom_sel hl s)

/-- Place `s` of a row's sorted logits is the logit of pick `s`. -/
theorem vals_read (L : FVec Ideal S8192x16 .f32) (r : Fin 8192) (hl : ∀ e, row L r e ≠ ⊥) (s : Fin 4) :
    vals L (ix2 r s) = row L r (sel (row L r) s) := by
  pointwise [vals, Host.topK, Host.sort2]
  exact (congrArg L (along_row r _ _)).trans (congrArg (row L r) (sorted_row L r hl s _ _))

/-- Place `s` of a row's sorted experts is pick `s`. -/
theorem inds_read (L : FVec Ideal S8192x16 .f32) (r : Fin 8192) (hl : ∀ e, row L r e ≠ ⊥) (s : Fin 4) :
    inds L (ix2 r s) = BitVec.ofNat 32 (sel (row L r) s).val := by
  pointwise [inds, Host.topK, Host.sort2]
  exact (congrArg (fun j : S8192x16.Idx => BitVec.ofNat 32 (j 1).val) (along_row r _ _)).trans
    (congrArg (fun k : Fin 16 => BitVec.ofNat 32 k.val) (sorted_row L r hl s _ _))

/-- The chosen experts of a token, from its row of logits and its predictor. -/
theorem idx_read (L : FVec Ideal S8192x16 .f32) (z : FVec Ideal S8192x1 .f32) (r : Fin 8192) (hl : ∀ e, row L r e ≠ ⊥) (s : Fin 4) :
    idx L z (ix2 r s) = idxRow (row L r) (z (ix2 r 0)) s := by
  have h : idx L z (ix2 r s) = Scalar.select (mask z (ix2 r s)) (inds L (ix2 r s)) 0#32 := by
    pointwise [idx]
  rw [h, mask_read, inds_read L r hl]
  rfl

/-- A column spread over four places reads its row's value. -/
theorem over4_read (v : FVec Ideal S8192 .f32) (r : Fin 8192) (s : Fin 4) : over4 v (ix2 r s) = v (ix1 r) := by
  pointwise [over4]

/-- A column spread over sixteen places reads its row's value. -/
theorem over16_read (v : FVec Ideal S8192 .f32) (r : Fin 8192) (s : Fin 16) : over16 v (ix2 r s) = v (ix1 r) := by
  pointwise [over16]

/-- The greatest of the picks that count is the first pick. -/
theorem most_read (L : FVec Ideal S8192x16 .f32) (z : FVec Ideal S8192x1 .f32) (r : Fin 8192) (hl : ∀ e, row L r e ≠ ⊥) :
    most L z (ix1 r) = row L r (sel (row L r) 0) := by
  have h : most L z (ix1 r) = Finset.univ.fold max (Ideal.ofBits .f32 0xFF800000#32)
      (fun s : Fin 4 => Scalar.select (mask z (ix2 r s)) (vals L (ix2 r s)) (Ideal.ofBits .f32 0xFF800000#32)) := by
    pointwise [most]
  rw [h, show Ideal.ofBits .f32 0xFF800000#32 = ⊥ by simp [Ideal.ofBits, Ideal.ieee]]
  simp only [mask_read, vals_read L r hl]
  refine le_antisymm ((Finset.fold_max_le _).mpr ⟨bot_le, fun s _ => ?_⟩) ((Finset.le_fold_max _).mpr (Or.inr ⟨0, Finset.mem_univ _, ?_⟩))
  · split_ifs
    · exact le_pick (row L r) _
    · exact bot_le
  · rw [if_pos (Or.inl rfl)]
    rfl

/-- The exponential at place `s` of a token, zero where its gate does not keep the place. -/
theorem exps_read (L : FVec Ideal S8192x16 .f32) (z : FVec Ideal S8192x1 .f32) (r : Fin 8192) (hl : ∀ e, row L r e ≠ ⊥) (s : Fin 4) :
    exps L z (ix2 r s) = expRow (row L r) (z (ix2 r 0)) s := by
  have h : exps L z (ix2 r s) = Scalar.select (mask z (ix2 r s)) (Ideal.exp (vals L (ix2 r s) - most L z (ix1 r))) 0 := by
    pointwise [exps, over4]
  rw [h, mask_read, vals_read L r hl, most_read L z r hl]
  rfl

/-- The weights of a token's chosen experts. -/
theorem wts_read (L : FVec Ideal S8192x16 .f32) (z : FVec Ideal S8192x1 .f32) (r : Fin 8192) (hl : ∀ e, row L r e ≠ ⊥) (s : Fin 4) :
    wts L z (ix2 r s) = wtRow (row L r) (z (ix2 r 0)) s := by
  rw [wtRow]
  simp only [← exps_read L z r hl]
  pointwise [wts, over4]

/-- The exponential of a logit less its row's greatest. -/
theorem pexps_read (L : FVec Ideal S8192x16 .f32) (r : Fin 8192) (e : Fin 16) :
    pexps L (ix2 r e) = Ideal.exp (row L r e - row L r (pick (row L r))) := by
  rw [← fold_max (row L r)]
  pointwise [pexps, over16]
  rw [show Ideal.ofBits .f32 0xFF800000#32 = ⊥ by simp [Ideal.ofBits, Ideal.ieee], max_eq_right bot_le]

/-- The probability of an expert for a token. -/
theorem probs_read (L : FVec Ideal S8192x16 .f32) (r : Fin 8192) (e : Fin 16) : probs L (ix2 r e) = probRow (row L r) e := by
  rw [probRow]
  simp only [← pexps_read L]
  pointwise [probs, over16]

/-- An expert's load: the mean of its probabilities over the tokens. -/
theorem means_read (P : FVec Ideal S8192x16 .f32) (e : Fin 16) :
    means P (ix1 e) = Ideal.div (∑ r : Fin 8192, P (ix2 r e)) (Ideal.ofBits .f32 0x46000000#32) := by
  pointwise [means]

/-- The divisor of the variance is fifteen. -/
theorem less1_read : less1 ix0 = Ideal.ofBits .f32 0x41700000#32 := by
  pointwise [less1]
  rw [show FloatOps.sitofp (F := Ideal) .f32 1#32 = (((1 : ℤ) : ℝ) : EReal) from rfl]
  simp [Ideal.ofBits, Ideal.ieee]
  norm_cast
  norm_num

/-- The divisor of the variance is positive. -/
theorem less1_pos : 0 < less1 ix0 := by
  rw [less1_read]
  simp [Ideal.ofBits, Ideal.ieee]
  norm_cast
  norm_num

/-- The variance of the load, from the experts' summed probabilities. -/
theorem var_read (P : FVec Ideal S8192x16 .f32) : var P (ix2 0 0) = varRow fun e => ∑ r : Fin 8192, P (ix2 r e) := by
  rw [varRow]
  simp only [← means_read]
  pointwise [var, devs]
  rw [if_pos less1_pos, less1_read]

/-- The entropy: the sum over tokens and experts, divided by the number of tokens and negated. -/
theorem ent_read (P : FVec Ideal S8192x16 .f32) :
    ent P (ix2 0 0) = -Ideal.div (∑ r : Fin 8192, ∑ e : Fin 16, P (ix2 r e) * Ideal.log (P (ix2 r e) + Ideal.ofBits .f32 0x322BCC77#32))
      (Ideal.ofBits .f32 0x46000000#32) := by
  pointwise [ent]

end Cert.ReferenceIdeal.Router

end
-- ==== Proof.Ideal.Tile.lean ====
/-
  The routing tail of a block of tokens over the extended reals, read column by column: each of its results is the
  token's own function of its 16 logits and its predictor.
-/
module

public import proofs.«01_k».proof.Proof.Ideal.Spec
public import proofs.«01_k».proof.Proof.Rows
public import Idealize.ShloMosaic.Lib.Pipeline.ValueKit

@[expose] public section

set_option maxRecDepth 16384

noncomputable section

namespace Cert.KernelIdeal.Router

open Idealize.ShloMosaic Cert.KernelIdeal Cert.KernelIdeal.Gen Cert.Router

/-- The bits of minus infinity. -/
theorem ofBits_bot : Ideal.ofBits .f32 0xFF800000#32 = ⊥ := by simp [Ideal.ofBits, Ideal.ieee]

/-- A column of a tile: the logits of one token. -/
abbrev col (w : FVec Ideal S16x2048 .f32) (y : Fin 2048) : Fin 16 → EReal := fun e => w (ix2 e y)

/-- The row of column maxima. -/
def top (w : FVec Ideal S16x2048 .f32) : FVec Ideal S1x2048 .f32 :=
  shapeCast S1x2048 (multiReduction .maximumf [0] S2048 w 0xFF800000#32 reduces_S16x2048_S2048 (.inl rfl) rfl)
    shapeCasts_S2048_S1x2048

/-- The row of the first row numbers at which a column has its maximum. -/
def first (w : FVec Ideal S16x2048 .f32) : IVec S1x2048 32 :=
  k0_pay8 rows16 (cmpf .oeq w (broadcastTo S16x2048 (top w) broadcasts_S1x2048_S16x2048)) 16#32

/-- The tile with those positions set to minus infinity. -/
def without (w : FVec Ideal S16x2048 .f32) : FVec Ideal S16x2048 .f32 :=
  select (cmpi .eq rows16 (broadcastTo S16x2048 (first w) broadcasts_S1x2048_S16x2048))
    (broadcast S16x2048 (Scalar.ofBits (F := Ideal) .f32 0xFF800000#32)) w

/-- The tile after `s` rounds. -/
def work (w : FVec Ideal S16x2048 .f32) : ℕ → FVec Ideal S16x2048 .f32
  | 0 => w
  | s + 1 => without (work w s)

/-- The maximum of a token's column is its value at the pick. -/
theorem top_read (w : FVec Ideal S16x2048 .f32) (y : Fin 2048) : top w (ix2 0 y) = col w y (pick (col w y)) := by
  refine Eq.trans ?_ (fold_max (col w y))
  pointwise [top]
  rw [ofBits_bot]

/-- The first place of the maximum is the pick. -/
theorem first_read (w : FVec Ideal S16x2048 .f32) (y : Fin 2048) : first w (ix2 0 y) = BitVec.ofNat 32 (pick (col w y)).val := by
  refine Eq.trans ?_ (fold_first (col w y))
  rw [← top_read]
  pointwise [first, k0_pay8, rows16]

/-- Taking the first greatest away sets the pick to minus infinity. -/
theorem col_without (w : FVec Ideal S16x2048 .f32) (y : Fin 2048) :
    col (without w) y = fun e => if e = pick (col w y) then ⊥ else col w y e := by
  funext e
  have h : (without w) (ix2 e y) = Scalar.select (IntOp.cmpi .eq (BitVec.ofNat 32 e.val) (first w (ix2 0 y))) (Ideal.ofBits .f32 0xFF800000#32) (w (ix2 e y)) := by
    pointwise [without, rows16]
  show without w (ix2 e y) = _
  rw [h, first_read, ofBits_bot]
  by_cases he : e = pick (col w y)
  · rw [if_pos he, ← he]
    simp [Scalar.select, IntOp.cmpi]
  · rw [if_neg he]
    have hne : (BitVec.ofNat 32 e.val == BitVec.ofNat 32 (pick (col w y)).val) = false :=
      beq_eq_false_iff_ne.mpr (mt (ofNat_inj _ _).mp he)
    simp [Scalar.select, IntOp.cmpi, hne]

/-- A column after `s` rounds is the token's row after `s` picks. -/
theorem col_work (w : FVec Ideal S16x2048 .f32) (y : Fin 2048) (s : ℕ) : col (work w s) y = rest (col w y) s := by
  induction s with
  | zero => rfl
  | succ s ih => exact (col_without (work w s) y).trans (by rw [ih]; rfl)

/-- The first greatest place after `s` rounds is pick `s`. -/
theorem first_work (w : FVec Ideal S16x2048 .f32) (y : Fin 2048) (s : ℕ) :
    first (work w s) (ix2 0 y) = BitVec.ofNat 32 (sel (col w y) s).val := by
  rw [first_read, col_work]; rfl

/-- The maximum after `s` rounds is the logit of pick `s`. -/
theorem top_work (w : FVec Ideal S16x2048 .f32) (y : Fin 2048) (hl : ∀ e, col w y e ≠ ⊥) {s : ℕ} (hs : s < 16) :
    top (work w s) (ix2 0 y) = col w y (sel (col w y) s) := by
  rw [top_read, col_work]; exact rest_sel hl hs

/-- The four rows of picked experts, and of their logits. -/
def firsts (w : FVec Ideal S16x2048 .f32) : IVec S4x2048 32 :=
  concatenate S4x2048 0 [⟨S1x2048, first (work w 0)⟩, ⟨S1x2048, first (work w 1)⟩, ⟨S1x2048, first (work w 2)⟩, ⟨S1x2048, first (work w 3)⟩]
    concatenates_S1x2048_S1x2048_S1x2048_S1x2048_S4x2048_d0
/-- See `firsts`. -/
def tops (w : FVec Ideal S16x2048 .f32) : FVec Ideal S4x2048 .f32 :=
  concatenate S4x2048 0 [⟨S1x2048, top (work w 0)⟩, ⟨S1x2048, top (work w 1)⟩, ⟨S1x2048, top (work w 2)⟩, ⟨S1x2048, top (work w 3)⟩]
    concatenates_S1x2048_S1x2048_S1x2048_S1x2048_S4x2048_d0

/-- The kernel's four rounds of places, by name. -/
theorem firsts_eq (lt : Vec Ideal S1x16x2048 .f32) :
    k0_pay18 (k0_pay4 lt) rows16 (k0_pay7 lt) 16#32 = firsts (k0_pay4 lt) := rfl
/-- The kernel's four rounds of maxima, by name. -/
theorem tops_eq (lt : Vec Ideal S1x16x2048 .f32) :
    k0_pay17 (k0_pay4 lt) rows16 (k0_pay6 lt) (k0_pay7 lt) 16#32 = tops (k0_pay4 lt) := rfl

/-- Row `s` of the stacked places is round `s`. -/
theorem firsts_at (w : FVec Ideal S16x2048 .f32) (s : Fin 4) (y : Fin 2048) : firsts w (ix2 s y) = first (work w s) (ix2 0 y) := by
  match s with
  | 0 => pointwise [firsts]
  | 1 => pointwise [firsts]
  | 2 => pointwise [firsts]
  | 3 => pointwise [firsts]

/-- Row `s` of the stacked maxima is round `s`. -/
theorem tops_at (w : FVec Ideal S16x2048 .f32) (s : Fin 4) (y : Fin 2048) : tops w (ix2 s y) = top (work w s) (ix2 0 y) := by
  match s with
  | 0 => pointwise [tops]
  | 1 => pointwise [tops]
  | 2 => pointwise [tops]
  | 3 => pointwise [tops]

/-- The slot's logits without their leading axis. -/
theorem pay4_read (lt : Vec Ideal S1x16x2048 .f32) (e : Fin 16) (y : Fin 2048) : k0_pay4 lt (ix2 e y) = lt (ix3 0 e y) := by
  pointwise [k0_pay4]

/-- The logits of one token of a tile. -/
abbrev tok (lt : Vec Ideal S1x16x2048 .f32) (y : Fin 2048) : Fin 16 → EReal := fun e => lt (ix3 0 e y)

/-- A token's column of the slot's logits. -/
theorem col_pay4 (lt : Vec Ideal S1x16x2048 .f32) (y : Fin 2048) : col (k0_pay4 lt) y = tok lt y := funext fun e => pay4_read lt e y

open Classical in
/-- The mask of a token's picks, as a choice. -/
theorem keep_select {α : Type} (s : Fin 4) (P : Prop) (a b : α) :
    Scalar.select (IntOp.ori (IntOp.cmpi .eq (BitVec.ofNat 32 s.val) 0#32) (BitVec.ofBool (decide P))) a b
      = if s = 0 ∨ P then a else b := by
  by_cases hP : P <;> match s with
    | 0 => simp [Scalar.select, IntOp.cmpi, IntOp.ori, hP]
    | 1 => simp [Scalar.select, IntOp.cmpi, IntOp.ori, hP]
    | 2 => simp [Scalar.select, IntOp.cmpi, IntOp.ori, hP]
    | 3 => simp [Scalar.select, IntOp.cmpi, IntOp.ori, hP]

/-- The mask of the picks of a block. -/
def mask (zt : Vec Ideal S1x1x2048 .f32) : IVec S4x2048 1 := k0_pay21 k0_pay19 (k0_pay20 (k0_pay5 zt))

open Classical in
theorem mask_read {α : Type} (zt : Vec Ideal S1x1x2048 .f32) (s : Fin 4) (y : Fin 2048) (a b : α) :
    Scalar.select (mask zt (ix2 s y)) a b = if kept (zt (ix3 0 0 y)) s then a else b := by
  refine Eq.trans ?_ ((keep_select s (0 < zt (ix3 0 0 y)) a b).trans (by congr))
  refine congrArg (Scalar.select · a b) ?_
  pointwise [mask, k0_pay21, k0_pay19, k0_pay20, k0_pay5]
  congr

/-- A tile's chosen experts. -/
theorem idxT_read (lt : Vec Ideal S1x16x2048 .f32) (zt : Vec Ideal S1x1x2048 .f32) (y : Fin 2048) (s : Fin 4) :
    idxT lt zt (ix2 y s) = idxRow (tok lt y) (zt (ix3 0 0 y)) s := by
  have h : idxT lt zt (ix2 y s) = Scalar.select (mask zt (ix2 s y)) (firsts (k0_pay4 lt) (ix2 s y)) 0#32 := by
    rw [idxT, firsts_eq]
    pointwise [k0_pay22, mask]
  rw [h, mask_read, firsts_at, first_work, col_pay4]
  rfl

/-- The weights of a block before they are normalized. -/
def expT (lt : Vec Ideal S1x16x2048 .f32) (zt : Vec Ideal S1x1x2048 .f32) : FVec Ideal S4x2048 .f32 :=
  select (mask zt) (exp (subf (tops (k0_pay4 lt)) (broadcastTo S4x2048 (k0_pay6 lt) broadcasts_S1x2048_S4x2048)))
    (broadcast S4x2048 (Scalar.ofBits (F := Ideal) .f32 0x00000000#32))

/-- A tile's exponentials, zero where the gate does not keep the place. -/
theorem expT_read (lt : Vec Ideal S1x16x2048 .f32) (zt : Vec Ideal S1x1x2048 .f32) (y : Fin 2048) (hl : ∀ e, tok lt y e ≠ ⊥) (s : Fin 4) :
    expT lt zt (ix2 s y) = expRow (tok lt y) (zt (ix3 0 0 y)) s := by
  have h : expT lt zt (ix2 s y) = Scalar.select (mask zt (ix2 s y))
      (Ideal.exp (tops (k0_pay4 lt) (ix2 s y) - top (work (k0_pay4 lt) 0) (ix2 0 y))) 0 := by
    refine Eq.trans ?_ (congrArg (fun v => Scalar.select (mask zt (ix2 s y)) (Ideal.exp (tops (k0_pay4 lt) (ix2 s y) - v)) 0)
      (show k0_pay6 lt (ix2 0 y) = _ from rfl))
    pointwise [expT]
  have hc : ∀ e, col (k0_pay4 lt) y e ≠ ⊥ := by rw [col_pay4]; exact hl
  rw [h, mask_read, tops_at, top_work _ _ hc (by omega), top_work _ _ hc (by omega), col_pay4]
  rfl

/-- A tile's weights of the chosen experts. -/
theorem wtsT_read (lt : Vec Ideal S1x16x2048 .f32) (zt : Vec Ideal S1x1x2048 .f32) (y : Fin 2048) (hl : ∀ e, tok lt y e ≠ ⊥) (s : Fin 4) :
    wtsT lt zt (ix2 y s) = wtRow (tok lt y) (zt (ix3 0 0 y)) s := by
  have h : wtsT lt zt (ix2 y s) = Ideal.div (expT lt zt (ix2 s y)) (∑ t : Fin 4, expT lt zt (ix2 t y)) := by
    show transpose S2048x4 [1, 0] (divf (expT lt zt) (broadcastTo S4x2048 (shapeCast S1x2048 (multiReduction .add [0] S2048 (expT lt zt) 0x00000000#32 reduces_S4x2048_S2048 (.inl rfl) rfl) shapeCasts_S2048_S1x2048) broadcasts_S1x2048_S4x2048)) transposes_S4x2048_p1_0_S2048x4 (ix2 y s) = _
    pointwise []
  rw [h, expT_read _ _ _ hl]
  simp only [expT_read _ _ _ hl]
  rfl

/-- A tile's logits, a row per token. -/
theorem logT_read (lt : Vec Ideal S1x16x2048 .f32) (y : Fin 2048) (e : Fin 16) : logT lt (ix2 y e) = lt (ix3 0 e y) := by
  pointwise [logT, k0_pay24, k0_pay4]

/-- The probabilities of a block. -/
theorem prob_read (lt : Vec Ideal S1x16x2048 .f32) (e : Fin 16) (y : Fin 2048) :
    k0_pay25 (k0_pay4 lt) (k0_pay6 lt) (ix2 e y) = probRow (tok lt y) e := by
  have h : k0_pay25 (k0_pay4 lt) (k0_pay6 lt) (ix2 e y) = Ideal.div (Ideal.exp (lt (ix3 0 e y) - top (k0_pay4 lt) (ix2 0 y)))
      (∑ f : Fin 16, Ideal.exp (lt (ix3 0 f y) - top (k0_pay4 lt) (ix2 0 y))) := by
    show k0_pay25 (k0_pay4 lt) (top (k0_pay4 lt)) (ix2 e y) = _
    pointwise [k0_pay25, k0_pay4]
  rw [h, top_read, col_pay4]
  rfl

/-- A tile adds its probabilities to the experts' load. -/
theorem loadT_read (lt : Vec Ideal S1x16x2048 .f32) (acc : Vec Ideal S16x1 .f32) (e : Fin 16) :
    loadT lt acc (ix2 e 0) = acc (ix2 e 0) + ∑ y : Fin 2048, probRow (tok lt y) e := by
  simp only [← prob_read]
  pointwise [loadT, k0_pay26]

/-- A tile takes its sum of entropy terms from the running total. -/
theorem entT_read (lt : Vec Ideal S1x16x2048 .f32) (v : Vec Ideal S1x1 .f32) :
    entT lt v (ix2 0 0) = v (ix2 0 0) + (0 - ∑ e : Fin 16, ∑ y : Fin 2048, entRow (tok lt y) e) := by
  simp only [entRow, ← prob_read]
  pointwise [entT, k0_pay2, k0_pay27]

/-- The variance from the summed load. -/
theorem varOf_read (acc : Vec Ideal S16x1 .f32) : varOf acc (ix2 0 0) = varRow fun e => acc (ix2 e 0) := by
  pointwise [varOf, k0_pay48]
  simp only [Finset.univ_unique, Finset.sum_const, Finset.card_singleton, one_smul]
  rfl

/-- The entropy from the running total. -/
theorem entOf_read (v : Vec Ideal S1x1 .f32) :
    entOf v (ix2 0 0) = Ideal.div (v (ix2 0 0)) (Ideal.ofBits .f32 0x46000000#32) := by
  pointwise [entOf, k0_pay3]

/-- The first 512 rows of the joined weights are the predictor's. -/
theorem wcat_low (w1 : Vec Ideal S512x2048 .f32) (wr : Vec Ideal S16x2048 .f32) (j : Fin 512) (h : j.val < 528) (k : Fin 2048) :
    wcat w1 wr (ix2 ⟨j.val, h⟩ k) = w1 (ix2 j k) := by
  have hj : ((ix2 (⟨j.val, h⟩ : Fin 528) k : S528x2048.Idx) 0).val < 512 := j.isLt
  rw [wcat, dif_pos hj, show (atRow (ix2 (⟨j.val, h⟩ : Fin 528) k) ⟨_, hj⟩ : S512x2048.Idx) = ix2 j k from ?_]
  · pointwise [k0_pay49]
  · funext d; match d with | 0 => rfl | 1 => rfl

/-- The last 16 rows of the joined weights are the router's. -/
theorem wcat_high (w1 : Vec Ideal S512x2048 .f32) (wr : Vec Ideal S16x2048 .f32) (e : Fin 16) (h : 512 + e.val < 528) (k : Fin 2048) :
    wcat w1 wr (ix2 ⟨512 + e.val, h⟩ k) = wr (ix2 e k) := by
  have hj : ¬ ((ix2 (⟨512 + e.val, h⟩ : Fin 528) k : S528x2048.Idx) 0).val < 512 := by
    show ¬ 512 + e.val < 512; omega
  rw [wcat, dif_neg hj, show (atRow (ix2 (⟨512 + e.val, h⟩ : Fin 528) k) ⟨_, _⟩ : S16x2048.Idx) = ix2 e k from ?_]
  · pointwise [k0_pay50]
  · funext d
    match d with
    | 0 => exact Fin.ext (Nat.add_sub_cancel_left 512 e.val)
    | 1 => rfl

/-- A tile's logits are products of its tokens with the router's weights. -/
theorem ltOf_read (x : Vec Ideal S2048x2048 .f32) (w1 : Vec Ideal S512x2048 .f32) (wr : Vec Ideal S16x2048 .f32)
    (e : Fin 16) (y : Fin 2048) : ltOf x (wcat w1 wr) (ix3 0 e y) = ∑ k : Fin 2048, x (ix2 y k) * wr (ix2 e k) := by
  pointwise [ltOf, k0_pay54, k0_pay52]
  exact Finset.sum_congr rfl fun k _ => by rw [wcat_high, mul_comm]

/-- A tile's predictor values. -/
theorem ztOf_read (x : Vec Ideal S2048x2048 .f32) (w1 : Vec Ideal S512x2048 .f32) (wr : Vec Ideal S16x2048 .f32)
    (b1 w2 : Vec Ideal S1x512 .f32) (b2 : Vec Ideal S1 .f32) (y : Fin 2048) :
    ztOf x (wcat w1 wr) b1 w2 b2 (ix3 0 0 y) = predRow (fun k => x (ix2 y k)) (fun j k => w1 (ix2 j k))
      (fun j => b1 (ix2 0 j)) (fun j => w2 (ix2 0 j)) (b2 (ix1 0)) := by
  pointwise [ztOf, k0_pay1, k0_pay53, k0_pay52]
  refine congrArg (· + b2 (ix1 0)) (Finset.sum_congr rfl fun j _ => ?_)
  rw [mul_comm]
  refine congrArg (fun v => max (v + b1 (ix2 0 j)) 0 * w2 (ix2 0 j)) (Finset.sum_congr rfl fun k _ => ?_)
  rw [wcat_low, mul_comm]

end Cert.KernelIdeal.Router

end
-- ==== Proof.Ideal.Value.lean ====
/-
  The kernel's five results over the extended reals, as functions of its argument arrays: every block at coordinates,
  and the two sums over the blocks as sums over the tokens.
-/
module

public import proofs.«01_k».proof.Proof.Ideal.Tile
public import proofs.«01_k».proof.Proof.Ideal.Data

@[expose] public section

set_option maxRecDepth 16384

noncomputable section

namespace Cert.KernelIdeal.Router

open Idealize.ShloMosaic Idealize.ShloMosaic.TcCoe Cert.KernelIdeal Cert.KernelIdeal.Gen Cert.Router

variable (m : (ℓ : Loc nD τ sig) → Buf (Elt Ideal) ℓ) (c : Dev nD)

/-- The tokens. -/
abbrev X : FVec Ideal S8192x2048 .f32 := m ((c : Thread nD τ).loc main_arg0)
/-- The router's weights, an expert a row. -/
abbrev Wr : FVec Ideal S16x2048 .f32 := m ((c : Thread nD τ).loc main_arg1)
/-- The predictor's parameters. -/
abbrev W1 : FVec Ideal S512x2048 .f32 := m ((c : Thread nD τ).loc main_arg2)
/-- See `W1`. -/
abbrev B1 : FVec Ideal S512 .f32 := m ((c : Thread nD τ).loc main_arg3)
/-- See `W1`. -/
abbrev W2 : FVec Ideal S1x512 .f32 := m ((c : Thread nD τ).loc main_arg4)
/-- See `W1`. -/
abbrev B2 : FVec Ideal S1 .f32 := m ((c : Thread nD τ).loc main_arg5)

/-- The logits of token `r`. -/
def lrow (r : Fin 8192) : Fin 16 → EReal := fun e => ∑ k : Fin 2048, X m c (ix2 r k) * Wr m c (ix2 e k)
/-- The predictor of token `r`. -/
def zrow (r : Fin 8192) : EReal := predRow (fun k => X m c (ix2 r k)) (fun j k => W1 m c (ix2 j k)) (fun j => B1 m c (ix1 j))
  (fun j => W2 m c (ix2 0 j)) (B2 m c (ix1 0))

/-! ## The blocks -/

/-- Where each input window's block starts. -/
theorem idx : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0
    ∧ win0_5.index t 0 = 0 ∧ win0_5.index t 1 = 0 := by decide +kernel

/-- Token `y` of block `n`. -/
abbrev at' (n : Fin 4) (y : Fin 2048) : Fin 8192 := ⟨n.val * 2048 + y.val, by omega⟩

/-- The tokens of a tile. -/
theorem blk0 (n : Fin 4) (y k : Fin 2048) : iblk m c 0 (pt n.val) (ix2 y k) = X m c (ix2 (at' n y) k) := by
  have hn : (pt n.val).val = n.val := Nat.mod_eq_of_lt n.isLt
  blk_ext [iblk, V, idx (pt n.val), hn]

/-- The predictor's first weights. -/
theorem blk1 (t : Fin cfg0.N) (j : Fin 512) (k : Fin 2048) : iblk m c 1 t (ix2 j k) = W1 m c (ix2 j k) := by
  blk_ext [iblk, V, idx t]

/-- The first bias is laid out as one row before the region. -/
theorem V_bias : V m c main_call0_v0 = shapeCast S1x512 (B1 m c) shapeCasts_S512_S1x512 := by
  entry_read
  rfl

/-- The predictor's first bias. -/
theorem blk2 (t : Fin cfg0.N) (j : Fin 512) : iblk m c 2 t (ix2 0 j) = B1 m c (ix1 j) := by
  have h : iblk m c 2 t (ix2 0 j) = V m c main_call0_v0 (ix2 0 j) := by
    blk_ext [iblk, idx t]
  rw [h, V_bias]
  pointwise []

/-- The predictor's second weights. -/
theorem blk3 (t : Fin cfg0.N) (j : Fin 512) : iblk m c 3 t (ix2 0 j) = W2 m c (ix2 0 j) := by
  blk_ext [iblk, V, idx t]

/-- The predictor's second bias. -/
theorem blk4 (t : Fin cfg0.N) : iblk m c 4 t (ix1 0) = B2 m c (ix1 0) := by
  blk_ext [iblk, V, idx t]

/-- The router's weights. -/
theorem blk5 (t : Fin cfg0.N) (e : Fin 16) (k : Fin 2048) : iblk m c 5 t (ix2 e k) = Wr m c (ix2 e k) := by
  blk_ext [iblk, V, idx t]

/-- The logits of a tile's token are those of the token. -/
theorem tok_LT (n : Fin 4) (y : Fin 2048) : tok (LT m c n.val) y = lrow m c (at' n y) := by
  funext e
  refine (ltOf_read _ _ _ e y).trans (Finset.sum_congr rfl fun k _ => ?_)
  rw [blk0, blk5]

/-- The predictor value of a tile's token is that of the token. -/
theorem ZT_read (n : Fin 4) (y : Fin 2048) : ZT m c n.val (ix3 0 0 y) = zrow m c (at' n y) := by
  refine (ztOf_read _ _ _ _ _ _ y).trans ?_
  simp only [blk0, blk1, blk2, blk3, blk4]
  rfl

/-! ## The row arrays -/

/-- Row `y` of tile `n` in an array laid out tile by tile. -/
theorem rowsOf_read {α : Type} {k : ℕ} (f : ℕ → (⟨2, ![2048, k]⟩ : Shape).Idx → α) (n : Fin 4) (y : Fin 2048) (e : Fin k) :
    rowsOf f (ix2 (at' n y) e) = f n.val (ix2 y e) := by
  have h1 : (n.val * 2048 + y.val) / 2048 = n.val := by omega
  have h2 : (n.val * 2048 + y.val) % 2048 = y.val := by omega
  show f ((n.val * 2048 + y.val) / 2048) _ = _
  rw [h1]
  refine congrArg (f n.val) (funext fun d => ?_)
  match d with
  | 0 => exact Fin.ext h2
  | 1 => rfl

/-- Every token is one of a block. -/
theorem exists_at (r : Fin 8192) : ∃ n y, r = at' n y :=
  ⟨⟨r.val / 2048, by omega⟩, ⟨r.val % 2048, Nat.mod_lt _ (by decide)⟩, Fin.ext (by show r.val = r.val / 2048 * 2048 + r.val % 2048; omega)⟩

/-- The kernel's logits. -/
theorem T6_read (r : Fin 8192) (e : Fin 16) : T6 m c (ix2 r e) = lrow m c r e := by
  obtain ⟨n, y, rfl⟩ := exists_at r
  exact (rowsOf_read _ n y e).trans ((logT_read _ y e).trans (congrFun (tok_LT m c n y) e))

/-- The kernel's chosen experts. -/
theorem T7_read (r : Fin 8192) (s : Fin 4) : T7 m c (ix2 r s) = idxRow (lrow m c r) (zrow m c r) s := by
  obtain ⟨n, y, rfl⟩ := exists_at r
  refine (rowsOf_read _ n y s).trans ((idxT_read _ _ y s).trans ?_)
  rw [tok_LT, ZT_read]

/-- The kernel's weights. -/
theorem T8_read (r : Fin 8192) (hl : ∀ e, lrow m c r e ≠ ⊥) (s : Fin 4) : T8 m c (ix2 r s) = wtRow (lrow m c r) (zrow m c r) s := by
  obtain ⟨n, y, rfl⟩ := exists_at r
  refine (rowsOf_read _ n y s).trans ((wtsT_read _ _ y (by rw [tok_LT]; exact hl) s).trans ?_)
  rw [tok_LT, ZT_read]

/-! ## The sums over the blocks -/

/-- The load after `n` tiles. -/
theorem AL_read (n : ℕ) (e : Fin 16) : AL m c n (ix2 e 0) = ∑ j ∈ Finset.range n, ∑ y : Fin 2048, probRow (tok (LT m c j) y) e := by
  induction n with
  | zero =>
    show load0 (F := Ideal) (ix2 e 0) = _
    rw [Finset.range_zero, Finset.sum_empty]
    pointwise [load0, k0_pay51]
  | succ n ih =>
    rw [Finset.sum_range_succ, ← ih]
    exact loadT_read _ _ e

/-- The entropy's running total after `n` tiles. -/
theorem AE_read (n : ℕ) : AE m c n (ix2 0 0) = ∑ j ∈ Finset.range n, (0 - ∑ y : Fin 2048, ∑ e : Fin 16, entRow (tok (LT m c j) y) e) := by
  induction n with
  | zero =>
    show Ideal.ofBits .f32 0x00000000#32 = _
    rw [Finset.range_zero, Finset.sum_empty]
    simp [Ideal.ofBits, Ideal.ieee]
  | succ n ih =>
    rw [Finset.sum_range_succ, ← ih, Finset.sum_comm]
    exact entT_read _ _

/-- A sum over the tokens is one over the blocks and the tokens of each. -/
theorem sum_tokens (f : Fin 8192 → EReal) : ∑ r, f r = ∑ n : Fin 4, ∑ y : Fin 2048, f (at' n y) :=
  Fin.sum_univ_tiles 4 2048 rfl f

/-- The kernel's variance of the load. -/
theorem T9_read : T9 m c (ix2 0 0) = varRow fun e => ∑ r : Fin 8192, probRow (lrow m c r) e := by
  refine (varOf_read _).trans (congrArg varRow (funext fun e => ?_))
  rw [AL_read, sum_tokens, Finset.sum_range]
  simp only [tok_LT]

/-- A sign moves out of the division by the number of tokens. -/
theorem div_neg (x : EReal) : Ideal.div (-x) (Ideal.ofBits .f32 0x46000000#32) = -Ideal.div x (Ideal.ofBits .f32 0x46000000#32) := by
  have h : Ideal.ofBits .f32 0x46000000#32 ≠ 0 := by simp [Ideal.ofBits, Ideal.ieee]
  rw [Ideal.div, Ideal.div, if_neg h, if_neg h, EReal.neg_mul]

/-- The kernel's entropy. -/
theorem T10_read (hl : ∀ r e, IsReal (lrow m c r e)) : T10 m c (ix2 0 0)
    = -Ideal.div (∑ r : Fin 8192, ∑ e : Fin 16, entRow (lrow m c r) e) (Ideal.ofBits .f32 0x46000000#32) := by
  refine (entOf_read _).trans ?_
  rw [← div_neg, AE_read, sum_tokens, Finset.sum_range]
  simp only [tok_LT]
  rw [neg_sum _ _ fun n => IsReal.sum _ _ fun y => IsReal.sum _ _ fun e => entRow_real _ (hl _) e]

end Cert.KernelIdeal.Router

end
-- ==== Proof.Algebraic.lean ====
/-
  The kernel's results over the extended reals are the reference's: both are the same functions of each token's logits
  and predictor, the logits being real because the tokens and the router's weights are.
-/
module

public import proofs.«01_k».proof.Defs
public import proofs.«01_k».proof.Proof.Ref
public import proofs.«01_k».proof.Proof.Ideal.Value
public import proofs.«01_k».proof.Proof.Ideal.Launch
public import Idealize.ShloMosaic.Lib.Claim

@[expose] public section

set_option maxRecDepth 16384

noncomputable section

namespace Cert.Proof

open Idealize.ShloMosaic Idealize.ShloMosaic.TcCoe Idealize.SL.Sem Cert.Router

/-! ## The precondition -/

/-- The shape facts the precondition states. -/
theorem pre_facts : Cert.Pre_router_inputs_finite.Facts where
  concatenates_S8192x2048_S16x2048_S8208x2048_d0 := by decide
  bcast_S_S8208x2048 := by decide

/-- A value whose absolute value is below infinity is real. -/
theorem real_of_abs {x : EReal}
    (h : BitVec.ofBool (decide ((FloatOps.absf (F := Ideal) (φ := .f32) x : EReal) < Ideal.ofBits .f32 0x7F800000#32)) = 1#1) : IsReal x := by
  have h' : (FloatOps.absf (F := Ideal) (φ := .f32) x : EReal) < Ideal.ofBits .f32 0x7F800000#32 := by
    by_contra hn
    rw [decide_eq_false hn] at h
    exact absurd h (by decide)
  rw [show Ideal.ofBits .f32 0x7F800000#32 = ⊤ by simp [Ideal.ofBits, Ideal.ieee]] at h'
  induction x using EReal.rec with
  | bot => exact absurd h' (lt_irrefl ⊤)
  | top => exact absurd h' (lt_irrefl ⊤)
  | coe r => exact ⟨r, rfl⟩

open Cert.Pre_router_inputs_finite in
/-- Under the precondition the tokens and the router's weights are real. -/
theorem real_of_pre (x : FVec Ideal S8192x2048 .f32) (wr : FVec Ideal S16x2048 .f32) (w1 : FVec Ideal S512x2048 .f32)
    (b1 : FVec Ideal S512 .f32) (w2 : FVec Ideal S1x512 .f32) (b2 : FVec Ideal S1 .f32)
    (h : @fn pre_facts Ideal _ x wr w1 b1 w2 b2 = fun _ => 1#1) :
    (∀ (r : Fin 8192) (k : Fin 2048), IsReal (x (ix2 r k))) ∧ ∀ (e : Fin 16) (k : Fin 2048), IsReal (wr (ix2 e k)) := by
  constructor
  · intro r k
    have h' := congrFun h (ix2 (⟨r.val, by omega⟩ : Fin 8208) k)
    revert h'
    pointwise [fn]
    exact real_of_abs
  · intro e k
    have h' := congrFun h (ix2 (⟨8192 + e.val, by omega⟩ : Fin 8208) k)
    revert h'
    pointwise [fn]
    exact real_of_abs

/-! ## The five results -/

open Cert.KernelIdeal.Router in
/-- Each result array of the kernel is the reference's value of the same arguments. -/
theorem values_agree (m : (ℓ : Loc Cert.KernelIdeal.nD Cert.KernelIdeal.τ Cert.KernelIdeal.sig) → Buf (Elt Ideal) ℓ) (c : Dev Cert.KernelIdeal.nD)
    (hx : ∀ (r : Fin 8192) (k : Fin 2048), IsReal (X m c (ix2 r k))) (hw : ∀ (e : Fin 16) (k : Fin 2048), IsReal (Wr m c (ix2 e k)))
    {x : FVec Ideal Cert.ReferenceIdeal.S8192x2048 .f32} {wr : FVec Ideal Cert.ReferenceIdeal.S16x2048 .f32}
    {w1 : FVec Ideal Cert.ReferenceIdeal.S512x2048 .f32} {b1 : FVec Ideal Cert.ReferenceIdeal.S512 .f32}
    {w2 : FVec Ideal Cert.ReferenceIdeal.S1x512 .f32} {b2 : FVec Ideal Cert.ReferenceIdeal.S1 .f32}
    (a0 : x = X m c) (a1 : wr = Wr m c) (a2 : w1 = W1 m c) (a3 : b1 = B1 m c) (a4 : w2 = W2 m c) (a5 : b2 = B2 m c) :
    let L := Cert.ReferenceIdeal.Router.logits x wr
    let z := Cert.ReferenceIdeal.Router.pred x w1 b1 w2 b2
    T6 m c = L ∧ T7 m c = Cert.ReferenceIdeal.Router.idx L z ∧ T8 m c = Cert.ReferenceIdeal.Router.wts L z
      ∧ T9 m c = Cert.ReferenceIdeal.Router.var (Cert.ReferenceIdeal.Router.probs L)
      ∧ T10 m c = Cert.ReferenceIdeal.Router.ent (Cert.ReferenceIdeal.Router.probs L) := by
  subst a0 a1 a2 a3 a4 a5
  intro L z
  have hrow : ∀ r, Cert.ReferenceIdeal.Router.row L r = lrow m c r := fun r => funext fun e => Cert.ReferenceIdeal.Router.logits_read _ _ r e
  have hz : ∀ r, z (ix2 r 0) = zrow m c r := fun r => Cert.ReferenceIdeal.Router.pred_read _ _ _ _ _ r
  have hreal : ∀ r e, IsReal (lrow m c r e) := fun r e => IsReal.sum _ _ fun k => (hx r k).mul (hw e k)
  have hbot : ∀ r e, lrow m c r e ≠ ⊥ := fun r e => (hreal r e).ne_bot
  have hbot' : ∀ r e, Cert.ReferenceIdeal.Router.row L r e ≠ ⊥ := fun r => by rw [hrow]; exact hbot r
  refine ⟨funext fun j => ?_, funext fun j => ?_, funext fun j => ?_, funext fun j => ?_, funext fun j => ?_⟩
  · rw [eq_ix2 j]
    exact (T6_read m c _ _).trans (congrFun (hrow _) _).symm
  · rw [eq_ix2 j]
    refine (T7_read m c _ _).trans (Eq.symm ((Cert.ReferenceIdeal.Router.idx_read L z _ (hbot' _) _).trans ?_))
    exact congrArg₂ (idxRow · · (j 1)) (hrow _) (hz _)
  · rw [eq_ix2 j]
    refine (T8_read m c _ (hbot _) _).trans (Eq.symm ((Cert.ReferenceIdeal.Router.wts_read L z _ (hbot' _) _).trans ?_))
    exact congrArg₂ (wtRow · · (j 1)) (hrow _) (hz _)
  · rw [one_idx j]
    refine (T9_read m c).trans (Eq.symm ((Cert.ReferenceIdeal.Router.var_read _).trans ?_))
    simp only [Cert.ReferenceIdeal.Router.probs_read, hrow]
  · rw [one_idx j]
    refine (T10_read m c hreal).trans (Eq.symm ((Cert.ReferenceIdeal.Router.ent_read _).trans ?_))
    simp only [Cert.ReferenceIdeal.Router.probs_read, hrow]
    rfl

/-- Under the precondition both programs run to the same five results. -/
theorem algebraic : Cert.algebraic_KernelIdeal_ReferenceIdeal_pre_router_inputs_finite (hPre_router_inputs_finite := pre_facts) := by
  intro m g m' g' hpre hargs
  open Cert.KernelIdeal.Router in
  refine ⟨T6 m, T7 m, T8 m, T9 m, T10 m,
    (θ_run Cert.KernelIdeal.defs _ _).mono (fun r h c => ?_) (θ_run_and (results m g) (frame m g)),
    (θ_run Cert.ReferenceIdeal.defs _ _).mono (fun r h c => ?_) (Cert.ReferenceIdeal.Value.run m' g')⟩
  · obtain ⟨h0, h1, h2, h3, h4⟩ := h.1 c
    exact ⟨h0, h1, h2, h3, h4, h.2.1 c⟩
  · obtain ⟨h0, h1, h2, h3, h4, hkept⟩ := h c
    obtain ⟨a0, a1, a2, a3, a4, a5⟩ := hargs c
    obtain ⟨hx, hw⟩ := real_of_pre _ _ _ _ _ _ (hpre c)
    obtain ⟨v0, v1, v2, v3, v4⟩ := values_agree m c hx hw a0 a1 a2 a3 a4 a5
    exact ⟨h0.trans v0.symm, h1.trans v1.symm, h2.trans v2.symm, h3.trans v3.symm, h4.trans v4.symm, hkept⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, pre_facts,
    frame_kernel, frame_kernelIdeal, fun m ρ _ => Cert.KernelIdeal.Router.frame m ρ,
    fun m ρ _ => frame_reference m ρ, fun m ρ _ => frame_reference m ρ, trivial, algebraic⟩

end Cert.Proof

end
